-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_in_range [hPre_neighbours_in_range : Cert.Pre_neighbours_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_in_range [hPre_neighbours_in_range : Cert.Pre_neighbours_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_neighbours_in_range [hKernelIdeal : Cert.KernelIdeal.Facts] [hPre_neighbours_in_range : Cert.Pre_neighbours_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_neighbours_in_range [hReferenceIdeal : Cert.ReferenceIdeal.Facts] [hPre_neighbours_in_range : Cert.Pre_neighbours_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_neighbours_in_range [hKernelIdeal : Cert.KernelIdeal.Facts] [hReferenceIdeal : Cert.ReferenceIdeal.Facts] [hPre_neighbours_in_range : Cert.Pre_neighbours_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29_0) = v0 c
          ∧ r.2.mem ((c.tc : Thread Cert.ReferenceIdeal.nD Cert.ReferenceIdeal.τ).loc Cert.ReferenceIdeal.main_v29_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_neighbours_in_range : Cert.Pre_neighbours_in_range.Facts),
    quiescent_Kernel (hKernel := hKernel)
    ∧ quiescent_KernelIdeal (hKernelIdeal := hKernelIdeal)
    ∧ quiescent_KernelIdeal_pre_neighbours_in_range (hKernelIdeal := hKernelIdeal) (hPre_neighbours_in_range := hPre_neighbours_in_range)
    ∧ quiescent_ReferenceIdeal (hReferenceIdeal := hReferenceIdeal)
    ∧ quiescent_ReferenceIdeal_pre_neighbours_in_range (hReferenceIdeal := hReferenceIdeal) (hPre_neighbours_in_range := hPre_neighbours_in_range)
    ∧ preserves_Kernel_KernelIdeal
    ∧ algebraic_KernelIdeal_ReferenceIdeal_pre_neighbours_in_range (hKernelIdeal := hKernelIdeal) (hReferenceIdeal := hReferenceIdeal) (hPre_neighbours_in_range := hPre_neighbours_in_range)
-- ==== Pre_neighbours_in_range.lean ====
abbrev S2x896x320 : Shape := ⟨3, ![2, 896, 320]⟩
abbrev S2x896 : Shape := ⟨2, ![2, 896]⟩
abbrev S2x896x27 : Shape := ⟨3, ![2, 896, 27]⟩
abbrev S27x320x384 : Shape := ⟨3, ![27, 320, 384]⟩
abbrev S384 : Shape := ⟨1, ![384]⟩
abbrev S2x896x384 : Shape := ⟨3, ![2, 896, 384]⟩
abbrev S_ : Shape := ⟨0, ![]⟩

class Facts : Prop where
  bcast_S_S2x896x27 : S_.BroadcastsInDim S2x896x27 (![] : Fin 0 → Fin S2x896x27.rank)

variable [Facts]

def fn {F : FTy → Type} [FloatOps F] (main_arg0 : IVec S2x896x320 8) (main_arg1 : FVec F S2x896 .f32) (main_arg2 : IVec S2x896x27 32) (main_arg3 : FVec F S27x320x384 .fp8e4m3) (main_arg4 : FVec F S384 .f32) (main_arg5 : FVec F S384 .f32) (main_arg6 : FVec F S2x896x384 .bf16) : IVec S2x896x27 1 :=
  let main_c : IVec S_ 32 := constantI S_ 32 896#32
  let main_v0 : IVec S2x896x27 32 := broadcastInDim S2x896x27 ![] bcast_S_S2x896x27 main_c
  let main_v1 : IVec S2x896x27 1 := cmpi .slt main_arg2 main_v0
  main_v1
-- ==== Kernel.lean ====
abbrev S2x896x320 : Shape := ⟨3, ![2, 896, 320]⟩
abbrev S2x896 : Shape := ⟨2, ![2, 896]⟩
abbrev S2x896x27 : Shape := ⟨3, ![2, 896, 27]⟩
abbrev S27x320x384 : Shape := ⟨3, ![27, 320, 384]⟩
abbrev S384 : Shape := ⟨1, ![384]⟩
abbrev S2x896x384 : Shape := ⟨3, ![2, 896, 384]⟩
abbrev S2x7x1x128 : Shape := ⟨4, ![2, 7, 1, 128]⟩
abbrev S1x384 : Shape := ⟨2, ![1, 384]⟩
abbrev S2x7x80x128 : Shape := ⟨4, ![2, 7, 80, 128]⟩
abbrev S2x7x27x128 : Shape := ⟨4, ![2, 7, 27, 128]⟩
abbrev S384x8704 : Shape := ⟨2, ![384, 8704]⟩
abbrev S8704x256 : Shape := ⟨2, ![8704, 256]⟩
abbrev S384x256 : Shape := ⟨2, ![384, 256]⟩
abbrev S1x896x320 : Shape := ⟨3, ![1, 896, 320]⟩
abbrev S896x320 : Shape := ⟨2, ![896, 320]⟩
abbrev S896x128 : Shape := ⟨2, ![896, 128]⟩
abbrev S128x896 : Shape := ⟨2, ![128, 896]⟩
abbrev S32x896 : Shape := ⟨2, ![32, 896]⟩
abbrev S32x128 : Shape := ⟨2, ![32, 128]⟩
abbrev S1x1x32x128 : Shape := ⟨4, ![1, 1, 32, 128]⟩
abbrev S896x64 : Shape := ⟨2, ![896, 64]⟩
abbrev S64x896 : Shape := ⟨2, ![64, 896]⟩
abbrev S16x896 : Shape := ⟨2, ![16, 896]⟩
abbrev S16x128 : Shape := ⟨2, ![16, 128]⟩
abbrev S1x1x16x128 : Shape := ⟨4, ![1, 1, 16, 128]⟩
abbrev S1x896x27 : Shape := ⟨3, ![1, 896, 27]⟩
abbrev S896x27 : Shape := ⟨2, ![896, 27]⟩
abbrev S27x896 : Shape := ⟨2, ![27, 896]⟩
abbrev S27x128 : Shape := ⟨2, ![27, 128]⟩
abbrev S1x1x27x128 : Shape := ⟨4, ![1, 1, 27, 128]⟩
abbrev S1x320x384 : Shape := ⟨3, ![1, 320, 384]⟩
abbrev S320x384 : Shape := ⟨2, ![320, 384]⟩
abbrev S256x384 : Shape := ⟨2, ![256, 384]⟩
abbrev S384x1792 : Shape := ⟨2, ![384, 1792]⟩
abbrev S1x64x384 : Shape := ⟨3, ![1, 64, 384]⟩
abbrev S64x384 : Shape := ⟨2, ![64, 384]⟩
abbrev S128x384 : Shape := ⟨2, ![128, 384]⟩
abbrev S384x128 : Shape := ⟨2, ![384, 128]⟩
abbrev S384x64 : Shape := ⟨2, ![384, 64]⟩
abbrev S384x1 : Shape := ⟨2, ![384, 1]⟩
abbrev S64x256 : Shape := ⟨2, ![64, 256]⟩
abbrev S8x128 : Shape := ⟨2, ![8, 128]⟩
abbrev S1x1x1x128 : Shape := ⟨4, ![1, 1, 1, 128]⟩
abbrev S1x128 : Shape := ⟨2, ![1, 128]⟩
abbrev S8x128x1 : Shape := ⟨3, ![8, 128, 1]⟩
abbrev S1x1x8x128 : Shape := ⟨4, ![1, 1, 8, 128]⟩
abbrev S80x128 : Shape := ⟨2, ![80, 128]⟩
abbrev S320x128 : Shape := ⟨2, ![320, 128]⟩
abbrev S256x128 : Shape := ⟨2, ![256, 128]⟩
abbrev S64x128 : Shape := ⟨2, ![64, 128]⟩
abbrev S1x128x384 : Shape := ⟨3, ![1, 128, 384]⟩
abbrev S128 : Shape := ⟨1, ![128]⟩
abbrev S246x128 : Shape := ⟨2, ![246, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x896x320, .i8⟩
  | .hbm, ⟨1, _⟩ => ⟨S2x896, .f32⟩
  | .hbm, ⟨2, _⟩ => ⟨S2x896x27, .i32⟩
  | .hbm, ⟨3, _⟩ => ⟨S27x320x384, .fp8e4m3⟩
  | .hbm, ⟨4, _⟩ => ⟨S384, .f32⟩
  | .hbm, ⟨5, _⟩ => ⟨S384, .f32⟩
  | .hbm, ⟨6, _⟩ => ⟨S2x896x384, .bf16⟩
  | .hbm, ⟨7, _⟩ => ⟨S2x7x1x128, .f32⟩
  | .hbm, ⟨8, _⟩ => ⟨S1x384, .f32⟩
  | .hbm, ⟨9, _⟩ => ⟨S1x384, .f32⟩
  | .hbm, ⟨10, _⟩ => ⟨S2x896x384, .fp8e4m3⟩
  | .hbm, ⟨11, _⟩ => ⟨S2x7x1x128, .f32⟩
  | .local _ .vmem, ⟨0, _⟩ => ⟨S2x896x320, .i8⟩
  | .local _ .vmem, ⟨1, _⟩ => ⟨S2x7x1x128, .f32⟩
  | .local _ .vmem, ⟨2, _⟩ => ⟨S2x896x27, .i32⟩
  | .local _ .vmem, ⟨3, _⟩ => ⟨S27x320x384, .fp8e4m3⟩
  | .local _ .vmem, ⟨4, _⟩ => ⟨S1x384, .f32⟩
  | .local _ .vmem, ⟨5, _⟩ => ⟨S1x384, .f32⟩
  | .local _ .vmem, ⟨6, _⟩ => ⟨S2x896x384, .bf16⟩
  | .local _ .vmem, ⟨7, _⟩ => ⟨S2x896x384, .fp8e4m3⟩
  | .local _ .vmem, ⟨8, _⟩ => ⟨S2x7x1x128, .f32⟩
  | .local _ .vmem, ⟨9, _⟩ => ⟨S2x7x80x128, .i32⟩
  | .local _ .vmem, ⟨10, _⟩ => ⟨S2x7x27x128, .i32⟩
  | .local _ .vmem, ⟨11, _⟩ => ⟨S384x8704, .bf16⟩
  | .local _ .vmem, ⟨12, _⟩ => ⟨S8704x256, .bf16⟩
  | .local _ .vmem, ⟨13, _⟩ => ⟨S384x256, .f32⟩
  | _, _ => ⟨S2x896x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c27_i32 : BitVec 32 := 27#32
  let v260 : BitVec 32 := Scalar.addi c0_i32 c27_i32
  let c1_i32 : BitVec 32 := 1#32
  ⟨c0_i32, v260, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v413 : Index := Scalar.indexCast arg14
  let c0_313 : Index := 0#32
  let c0_314 : Index := 0#32
  ![v413.toNat, 0, 0]
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v417 : BitVec 32 := Scalar.muli arg14 c256_i32
  v417
def k0_off2 (k0_t1 : Fin k0_t1_loop.trips) : Fin 2 → Nat :=
  let c0_315 : Index := 0#32
  let c0_i32 : BitVec 32 := 0#32
  let c1_i32 : BitVec 32 := 1#32
  let arg14 : BitVec 32 := Scf.iv c0_i32 c1_i32 k0_t1
  let c256_i32 : BitVec 32 := 256#32
  let v417 : BitVec 32 := Scalar.muli arg14 c256_i32
  let v418 : BitVec 32 := v417
  let v421 : Index := Scalar.indexCast v418
  ![0, v421.toNat]
@[reducible] def k0_t2_loop : Scf.Loop 32 :=
  let c0_i32_310 : BitVec 32 := 0#32
  let c7_i32 : BitVec 32 := 7#32
  let v412 : BitVec 32 := Scalar.addi c0_i32_310 c7_i32
  let c1_i32_311 : BitVec 32 := 1#32
  ⟨c0_i32_310, v412, c1_i32_311⟩
@[reducible] def k0_t3_loop : Scf.Loop 32 :=
  let c0_i32_323 : BitVec 32 := 0#32
  let c27_i32_324 : BitVec 32 := 27#32
  let v435 : BitVec 32 := Scalar.addi c0_i32_323 c27_i32_324
  let c1_i32_325 : BitVec 32 := 1#32
  ⟨c0_i32_323, v435, c1_i32_325⟩
def k0_off3 (k0_t2 : Fin k0_t2_loop.trips) (k0_t3 : Fin k0_t3_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v641 : Index := Scalar.indexCast v431
  let c7_i32_321 : BitVec 32 := 7#32
  let v432 : BitVec 32 := Scalar.muli v431 c7_i32_321
  let v433 : BitVec 32 := Scalar.subi v414 v432
  let v642 : Index := Scalar.indexCast v433
  let c0_i32_323 : BitVec 32 := 0#32
  let c1_i32_325 : BitVec 32 := 1#32
  let arg15 : BitVec 32 := Scf.iv c0_i32_323 c1_i32_325 k0_t3
  let v643 : Index := Scalar.indexCast arg15
  let c0_408 : Index := 0#32
  ![v641.toNat, v642.toNat, v643.toNat, 0]
def k0_off4 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v653 : Index := Scalar.indexCast v431
  let c0_412 : Index := 0#32
  let c0_413 : Index := 0#32
  let c0_414 : Index := 0#32
  ![v653.toNat, 0, 0, 0]
def k0_off5 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v669 : Index := Scalar.indexCast v431
  let c1_418 : Index := 1#32
  let c0_419 : Index := 0#32
  let c0_420 : Index := 0#32
  ![v669.toNat, 1, 0, 0]
def k0_off6 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v685 : Index := Scalar.indexCast v431
  let c2_424 : Index := 2#32
  let c0_425 : Index := 0#32
  let c0_426 : Index := 0#32
  ![v685.toNat, 2, 0, 0]
def k0_off7 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v701 : Index := Scalar.indexCast v431
  let c3_430 : Index := 3#32
  let c0_431 : Index := 0#32
  let c0_432 : Index := 0#32
  ![v701.toNat, 3, 0, 0]
def k0_off8 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v717 : Index := Scalar.indexCast v431
  let c4_435 : Index := 4#32
  let c0_436 : Index := 0#32
  let c0_437 : Index := 0#32
  ![v717.toNat, 4, 0, 0]
def k0_off9 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v733 : Index := Scalar.indexCast v431
  let c5_440 : Index := 5#32
  let c0_441 : Index := 0#32
  let c0_442 : Index := 0#32
  ![v733.toNat, 5, 0, 0]
def k0_off10 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v749 : Index := Scalar.indexCast v431
  let c6_445 : Index := 6#32
  let c0_446 : Index := 0#32
  let c0_447 : Index := 0#32
  ![v749.toNat, 6, 0, 0]
def k0_off11 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v771 : Index := Scalar.indexCast v431
  let c0_452 : Index := 0#32
  let c0_453 : Index := 0#32
  let c0_454 : Index := 0#32
  ![v771.toNat, 0, 0, 0]
def k0_off12 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v785 : Index := Scalar.indexCast v431
  let c1_458 : Index := 1#32
  let c0_459 : Index := 0#32
  let c0_460 : Index := 0#32
  ![v785.toNat, 1, 0, 0]
def k0_off13 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v799 : Index := Scalar.indexCast v431
  let c2_464 : Index := 2#32
  let c0_465 : Index := 0#32
  let c0_466 : Index := 0#32
  ![v799.toNat, 2, 0, 0]
def k0_off14 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v813 : Index := Scalar.indexCast v431
  let c3_470 : Index := 3#32
  let c0_471 : Index := 0#32
  let c0_472 : Index := 0#32
  ![v813.toNat, 3, 0, 0]
def k0_off15 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v827 : Index := Scalar.indexCast v431
  let c4_476 : Index := 4#32
  let c0_477 : Index := 0#32
  let c0_478 : Index := 0#32
  ![v827.toNat, 4, 0, 0]
def k0_off16 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v841 : Index := Scalar.indexCast v431
  let c5_482 : Index := 5#32
  let c0_483 : Index := 0#32
  let c0_484 : Index := 0#32
  ![v841.toNat, 5, 0, 0]
def k0_off17 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v855 : Index := Scalar.indexCast v431
  let c6_488 : Index := 6#32
  let c0_489 : Index := 0#32
  let c0_490 : Index := 0#32
  ![v855.toNat, 6, 0, 0]
def k0_off18 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v873 : Index := Scalar.indexCast v431
  let c0_496 : Index := 0#32
  let c8_497 : Index := 8#32
  let c0_498 : Index := 0#32
  ![v873.toNat, 0, 8, 0]
def k0_off19 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v887 : Index := Scalar.indexCast v431
  let c1_502 : Index := 1#32
  let c8_503 : Index := 8#32
  let c0_504 : Index := 0#32
  ![v887.toNat, 1, 8, 0]
def k0_off20 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v901 : Index := Scalar.indexCast v431
  let c2_508 : Index := 2#32
  let c8_509 : Index := 8#32
  let c0_510 : Index := 0#32
  ![v901.toNat, 2, 8, 0]
def k0_off21 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v915 : Index := Scalar.indexCast v431
  let c3_514 : Index := 3#32
  let c8_515 : Index := 8#32
  let c0_516 : Index := 0#32
  ![v915.toNat, 3, 8, 0]
def k0_off22 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v929 : Index := Scalar.indexCast v431
  let c4_520 : Index := 4#32
  let c8_521 : Index := 8#32
  let c0_522 : Index := 0#32
  ![v929.toNat, 4, 8, 0]
def k0_off23 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v943 : Index := Scalar.indexCast v431
  let c5_526 : Index := 5#32
  let c8_527 : Index := 8#32
  let c0_528 : Index := 0#32
  ![v943.toNat, 5, 8, 0]
def k0_off24 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v957 : Index := Scalar.indexCast v431
  let c6_532 : Index := 6#32
  let c8_533 : Index := 8#32
  let c0_534 : Index := 0#32
  ![v957.toNat, 6, 8, 0]
def k0_off25 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v975 : Index := Scalar.indexCast v431
  let c0_540 : Index := 0#32
  let c16_541 : Index := 16#32
  let c0_542 : Index := 0#32
  ![v975.toNat, 0, 16, 0]
def k0_off26 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v989 : Index := Scalar.indexCast v431
  let c1_546 : Index := 1#32
  let c16_547 : Index := 16#32
  let c0_548 : Index := 0#32
  ![v989.toNat, 1, 16, 0]
def k0_off27 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1003 : Index := Scalar.indexCast v431
  let c2_552 : Index := 2#32
  let c16_553 : Index := 16#32
  let c0_554 : Index := 0#32
  ![v1003.toNat, 2, 16, 0]
def k0_off28 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1017 : Index := Scalar.indexCast v431
  let c3_558 : Index := 3#32
  let c16_559 : Index := 16#32
  let c0_560 : Index := 0#32
  ![v1017.toNat, 3, 16, 0]
def k0_off29 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1031 : Index := Scalar.indexCast v431
  let c4_564 : Index := 4#32
  let c16_565 : Index := 16#32
  let c0_566 : Index := 0#32
  ![v1031.toNat, 4, 16, 0]
def k0_off30 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1045 : Index := Scalar.indexCast v431
  let c5_570 : Index := 5#32
  let c16_571 : Index := 16#32
  let c0_572 : Index := 0#32
  ![v1045.toNat, 5, 16, 0]
def k0_off31 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1059 : Index := Scalar.indexCast v431
  let c6_576 : Index := 6#32
  let c16_577 : Index := 16#32
  let c0_578 : Index := 0#32
  ![v1059.toNat, 6, 16, 0]
def k0_off32 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1077 : Index := Scalar.indexCast v431
  let c0_584 : Index := 0#32
  let c24_585 : Index := 24#32
  let c0_586 : Index := 0#32
  ![v1077.toNat, 0, 24, 0]
def k0_off33 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1091 : Index := Scalar.indexCast v431
  let c1_590 : Index := 1#32
  let c24_591 : Index := 24#32
  let c0_592 : Index := 0#32
  ![v1091.toNat, 1, 24, 0]
def k0_off34 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1105 : Index := Scalar.indexCast v431
  let c2_596 : Index := 2#32
  let c24_597 : Index := 24#32
  let c0_598 : Index := 0#32
  ![v1105.toNat, 2, 24, 0]
def k0_off35 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1119 : Index := Scalar.indexCast v431
  let c3_602 : Index := 3#32
  let c24_603 : Index := 24#32
  let c0_604 : Index := 0#32
  ![v1119.toNat, 3, 24, 0]
def k0_off36 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1133 : Index := Scalar.indexCast v431
  let c4_608 : Index := 4#32
  let c24_609 : Index := 24#32
  let c0_610 : Index := 0#32
  ![v1133.toNat, 4, 24, 0]
def k0_off37 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1147 : Index := Scalar.indexCast v431
  let c5_614 : Index := 5#32
  let c24_615 : Index := 24#32
  let c0_616 : Index := 0#32
  ![v1147.toNat, 5, 24, 0]
def k0_off38 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1161 : Index := Scalar.indexCast v431
  let c6_620 : Index := 6#32
  let c24_621 : Index := 24#32
  let c0_622 : Index := 0#32
  ![v1161.toNat, 6, 24, 0]
def k0_off39 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1179 : Index := Scalar.indexCast v431
  let c0_628 : Index := 0#32
  let c32_629 : Index := 32#32
  let c0_630 : Index := 0#32
  ![v1179.toNat, 0, 32, 0]
def k0_off40 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1193 : Index := Scalar.indexCast v431
  let c1_634 : Index := 1#32
  let c32_635 : Index := 32#32
  let c0_636 : Index := 0#32
  ![v1193.toNat, 1, 32, 0]
def k0_off41 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1207 : Index := Scalar.indexCast v431
  let c2_640 : Index := 2#32
  let c32_641 : Index := 32#32
  let c0_642 : Index := 0#32
  ![v1207.toNat, 2, 32, 0]
def k0_off42 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1221 : Index := Scalar.indexCast v431
  let c3_646 : Index := 3#32
  let c32_647 : Index := 32#32
  let c0_648 : Index := 0#32
  ![v1221.toNat, 3, 32, 0]
def k0_off43 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1235 : Index := Scalar.indexCast v431
  let c4_652 : Index := 4#32
  let c32_653 : Index := 32#32
  let c0_654 : Index := 0#32
  ![v1235.toNat, 4, 32, 0]
def k0_off44 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1249 : Index := Scalar.indexCast v431
  let c5_658 : Index := 5#32
  let c32_659 : Index := 32#32
  let c0_660 : Index := 0#32
  ![v1249.toNat, 5, 32, 0]
def k0_off45 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1263 : Index := Scalar.indexCast v431
  let c6_664 : Index := 6#32
  let c32_665 : Index := 32#32
  let c0_666 : Index := 0#32
  ![v1263.toNat, 6, 32, 0]
def k0_off46 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1281 : Index := Scalar.indexCast v431
  let c0_672 : Index := 0#32
  let c40 : Index := 40#32
  let c0_673 : Index := 0#32
  ![v1281.toNat, 0, 40, 0]
def k0_off47 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1295 : Index := Scalar.indexCast v431
  let c1_677 : Index := 1#32
  let c40_678 : Index := 40#32
  let c0_679 : Index := 0#32
  ![v1295.toNat, 1, 40, 0]
def k0_off48 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1309 : Index := Scalar.indexCast v431
  let c2_683 : Index := 2#32
  let c40_684 : Index := 40#32
  let c0_685 : Index := 0#32
  ![v1309.toNat, 2, 40, 0]
def k0_off49 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1323 : Index := Scalar.indexCast v431
  let c3_689 : Index := 3#32
  let c40_690 : Index := 40#32
  let c0_691 : Index := 0#32
  ![v1323.toNat, 3, 40, 0]
def k0_off50 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1337 : Index := Scalar.indexCast v431
  let c4_695 : Index := 4#32
  let c40_696 : Index := 40#32
  let c0_697 : Index := 0#32
  ![v1337.toNat, 4, 40, 0]
def k0_off51 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1351 : Index := Scalar.indexCast v431
  let c5_701 : Index := 5#32
  let c40_702 : Index := 40#32
  let c0_703 : Index := 0#32
  ![v1351.toNat, 5, 40, 0]
def k0_off52 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1365 : Index := Scalar.indexCast v431
  let c6_707 : Index := 6#32
  let c40_708 : Index := 40#32
  let c0_709 : Index := 0#32
  ![v1365.toNat, 6, 40, 0]
def k0_off53 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1383 : Index := Scalar.indexCast v431
  let c0_715 : Index := 0#32
  let c48 : Index := 48#32
  let c0_716 : Index := 0#32
  ![v1383.toNat, 0, 48, 0]
def k0_off54 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1397 : Index := Scalar.indexCast v431
  let c1_720 : Index := 1#32
  let c48_721 : Index := 48#32
  let c0_722 : Index := 0#32
  ![v1397.toNat, 1, 48, 0]
def k0_off55 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1411 : Index := Scalar.indexCast v431
  let c2_726 : Index := 2#32
  let c48_727 : Index := 48#32
  let c0_728 : Index := 0#32
  ![v1411.toNat, 2, 48, 0]
def k0_off56 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1425 : Index := Scalar.indexCast v431
  let c3_732 : Index := 3#32
  let c48_733 : Index := 48#32
  let c0_734 : Index := 0#32
  ![v1425.toNat, 3, 48, 0]
def k0_off57 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1439 : Index := Scalar.indexCast v431
  let c4_738 : Index := 4#32
  let c48_739 : Index := 48#32
  let c0_740 : Index := 0#32
  ![v1439.toNat, 4, 48, 0]
def k0_off58 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1453 : Index := Scalar.indexCast v431
  let c5_744 : Index := 5#32
  let c48_745 : Index := 48#32
  let c0_746 : Index := 0#32
  ![v1453.toNat, 5, 48, 0]
def k0_off59 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1467 : Index := Scalar.indexCast v431
  let c6_750 : Index := 6#32
  let c48_751 : Index := 48#32
  let c0_752 : Index := 0#32
  ![v1467.toNat, 6, 48, 0]
def k0_off60 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1485 : Index := Scalar.indexCast v431
  let c0_758 : Index := 0#32
  let c56 : Index := 56#32
  let c0_759 : Index := 0#32
  ![v1485.toNat, 0, 56, 0]
def k0_off61 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1499 : Index := Scalar.indexCast v431
  let c1_763 : Index := 1#32
  let c56_764 : Index := 56#32
  let c0_765 : Index := 0#32
  ![v1499.toNat, 1, 56, 0]
def k0_off62 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1513 : Index := Scalar.indexCast v431
  let c2_769 : Index := 2#32
  let c56_770 : Index := 56#32
  let c0_771 : Index := 0#32
  ![v1513.toNat, 2, 56, 0]
def k0_off63 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1527 : Index := Scalar.indexCast v431
  let c3_775 : Index := 3#32
  let c56_776 : Index := 56#32
  let c0_777 : Index := 0#32
  ![v1527.toNat, 3, 56, 0]
def k0_off64 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1541 : Index := Scalar.indexCast v431
  let c4_781 : Index := 4#32
  let c56_782 : Index := 56#32
  let c0_783 : Index := 0#32
  ![v1541.toNat, 4, 56, 0]
def k0_off65 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1555 : Index := Scalar.indexCast v431
  let c5_787 : Index := 5#32
  let c56_788 : Index := 56#32
  let c0_789 : Index := 0#32
  ![v1555.toNat, 5, 56, 0]
def k0_off66 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1569 : Index := Scalar.indexCast v431
  let c6_793 : Index := 6#32
  let c56_794 : Index := 56#32
  let c0_795 : Index := 0#32
  ![v1569.toNat, 6, 56, 0]
def k0_off67 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1587 : Index := Scalar.indexCast v431
  let c0_801 : Index := 0#32
  let c64_802 : Index := 64#32
  let c0_803 : Index := 0#32
  ![v1587.toNat, 0, 64, 0]
def k0_off68 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1601 : Index := Scalar.indexCast v431
  let c1_807 : Index := 1#32
  let c64_808 : Index := 64#32
  let c0_809 : Index := 0#32
  ![v1601.toNat, 1, 64, 0]
def k0_off69 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1615 : Index := Scalar.indexCast v431
  let c2_813 : Index := 2#32
  let c64_814 : Index := 64#32
  let c0_815 : Index := 0#32
  ![v1615.toNat, 2, 64, 0]
def k0_off70 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1629 : Index := Scalar.indexCast v431
  let c3_819 : Index := 3#32
  let c64_820 : Index := 64#32
  let c0_821 : Index := 0#32
  ![v1629.toNat, 3, 64, 0]
def k0_off71 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1643 : Index := Scalar.indexCast v431
  let c4_825 : Index := 4#32
  let c64_826 : Index := 64#32
  let c0_827 : Index := 0#32
  ![v1643.toNat, 4, 64, 0]
def k0_off72 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1657 : Index := Scalar.indexCast v431
  let c5_831 : Index := 5#32
  let c64_832 : Index := 64#32
  let c0_833 : Index := 0#32
  ![v1657.toNat, 5, 64, 0]
def k0_off73 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1671 : Index := Scalar.indexCast v431
  let c6_837 : Index := 6#32
  let c64_838 : Index := 64#32
  let c0_839 : Index := 0#32
  ![v1671.toNat, 6, 64, 0]
def k0_off74 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1689 : Index := Scalar.indexCast v431
  let c0_845 : Index := 0#32
  let c72 : Index := 72#32
  let c0_846 : Index := 0#32
  ![v1689.toNat, 0, 72, 0]
def k0_off75 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1703 : Index := Scalar.indexCast v431
  let c1_850 : Index := 1#32
  let c72_851 : Index := 72#32
  let c0_852 : Index := 0#32
  ![v1703.toNat, 1, 72, 0]
def k0_off76 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1717 : Index := Scalar.indexCast v431
  let c2_856 : Index := 2#32
  let c72_857 : Index := 72#32
  let c0_858 : Index := 0#32
  ![v1717.toNat, 2, 72, 0]
def k0_off77 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1731 : Index := Scalar.indexCast v431
  let c3_862 : Index := 3#32
  let c72_863 : Index := 72#32
  let c0_864 : Index := 0#32
  ![v1731.toNat, 3, 72, 0]
def k0_off78 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1745 : Index := Scalar.indexCast v431
  let c4_868 : Index := 4#32
  let c72_869 : Index := 72#32
  let c0_870 : Index := 0#32
  ![v1745.toNat, 4, 72, 0]
def k0_off79 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1759 : Index := Scalar.indexCast v431
  let c5_874 : Index := 5#32
  let c72_875 : Index := 72#32
  let c0_876 : Index := 0#32
  ![v1759.toNat, 5, 72, 0]
def k0_off80 (k0_t2 : Fin k0_t2_loop.trips) : Fin 4 → Nat :=
  let c2_i32 : BitVec 32 := 2#32
  let c0_i32_310 : BitVec 32 := 0#32
  let c1_i32_311 : BitVec 32 := 1#32
  let arg14 : BitVec 32 := Scf.iv c0_i32_310 c1_i32_311 k0_t2
  let v413 : BitVec 32 := Scalar.muli c2_i32 arg14
  let c0_i32_313 : BitVec 32 := 0#32
  let v414 : BitVec 32 := Scalar.addi v413 c0_i32_313
  let c0_i32_315 : BitVec 32 := 0#32
  let v416 : BitVec 1 := Scalar.cmpi .sgt v414 c0_i32_315
  let v417 : BitVec 32 := Scalar.extui v416
  let c0_i32_316 : BitVec 32 := 0#32
  let v418 : BitVec 1 := Scalar.cmpi .slt v414 c0_i32_316
  let v419 : BitVec 32 := Scalar.extui v418
  let v420 : BitVec 32 := Scalar.subi v417 v419
  let c7_i32_314 : BitVec 32 := 7#32
  let c0_i32_317 : BitVec 32 := 0#32
  let v421 : BitVec 1 := Scalar.cmpi .sgt c7_i32_314 c0_i32_317
  let v422 : BitVec 32 := Scalar.extui v421
  let c0_i32_318 : BitVec 32 := 0#32
  let v423 : BitVec 1 := Scalar.cmpi .slt c7_i32_314 c0_i32_318
  let v424 : BitVec 32 := Scalar.extui v423
  let v425 : BitVec 32 := Scalar.subi v422 v424
  let v426 : BitVec 1 := Scalar.cmpi .ne v420 v425
  let v427 : BitVec 32 := Scalar.remsi v414 c7_i32_314
  let c0_i32_319 : BitVec 32 := 0#32
  let v428 : BitVec 1 := Scalar.cmpi .ne v427 c0_i32_319
  let v429 : BitVec 1 := Scalar.andi v426 v428
  let v415 : BitVec 32 := Scalar.divsi v414 c7_i32_314
  let c1_i32_320 : BitVec 32 := 1#32
  let v430 : BitVec 32 := Scalar.subi v415 c1_i32_320
  let v431 : BitVec 32 := Scalar.select v429 v430 v415
  let v1773 : Index := Scalar.indexCast v431
  let c6_880 : Index := 6#32
  let c72_881 : Index := 72#32
  let c0_882 : Index := 0#32
  ![v1773.toNat, 6, 72, 0]
def k0_mult2 (k0_t3 : Fin k0_t3_loop.trips) : BitVec 32 :=
  let c0_i32_323 : BitVec 32 := 0#32
  let c1_i32_325 : BitVec 32 := 1#32
  let arg15 : BitVec 32 := Scf.iv c0_i32_323 c1_i32_325 k0_t3
  let c256_i32 : BitVec 32 := 256#32
  let v1794 : BitVec 32 := Scalar.muli arg15 c256_i32
  v1794
def k0_off81 (k0_t3 : Fin k0_t3_loop.trips) : Fin 2 → Nat :=
  let c0_i32_323 : BitVec 32 := 0#32
  let c1_i32_325 : BitVec 32 := 1#32
  let arg15 : BitVec 32 := Scf.iv c0_i32_323 c1_i32_325 k0_t3
  let c256_i32 : BitVec 32 := 256#32
  let v1794 : BitVec 32 := Scalar.muli arg15 c256_i32
  let v1795 : BitVec 32 := v1794
  let v1796 : Index := Scalar.indexCast v1795
  let c0_886 : Index := 0#32
  ![v1796.toNat, 0]
def k0_mult3 (k0_t3 : Fin k0_t3_loop.trips) : BitVec 32 :=
  let c6912_i32 : BitVec 32 := 6912#32
  let c0_i32_323 : BitVec 32 := 0#32
  let c1_i32_325 : BitVec 32 := 1#32
  let arg15 : BitVec 32 := Scf.iv c0_i32_323 c1_i32_325 k0_t3
  let c64_i32 : BitVec 32 := 64#32
  let v1800 : BitVec 32 := Scalar.muli arg15 c64_i32
  let v1801 : BitVec 32 := Scalar.addi c6912_i32 v1800
  v1801
def k0_off82 (k0_t3 : Fin k0_t3_loop.trips) : Fin 2 → Nat :=
  let c6912_i32 : BitVec 32 := 6912#32
  let c0_i32_323 : BitVec 32 := 0#32
  let c1_i32_325 : BitVec 32 := 1#32
  let arg15 : BitVec 32 := Scf.iv c0_i32_323 c1_i32_325 k0_t3
  let c64_i32 : BitVec 32 := 64#32
  let v1800 : BitVec 32 := Scalar.muli arg15 c64_i32
  let v1801 : BitVec 32 := Scalar.addi c6912_i32 v1800
  let v1802 : BitVec 32 := v1801
  let v1804 : Index := Scalar.indexCast v1802
  let c0_887 : Index := 0#32
  ![v1804.toNat, 0]
@[reducible] def k0_t4_loop : Scf.Loop 32 :=
  let c0_i32_338 : BitVec 32 := 0#32
  let c27_i32_339 : BitVec 32 := 27#32
  let v458 : BitVec 32 := Scalar.addi c0_i32_338 c27_i32_339
  let c1_i32_340 : BitVec 32 := 1#32
  ⟨c0_i32_338, v458, c1_i32_340⟩
def k0_off83 (k0_t2 : Fin k0_t2_loop.trips) (k0_t4 : Fin k0_t4_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v641 : Index := Scalar.indexCast v454
  let c7_i32_336 : BitVec 32 := 7#32
  let v455 : BitVec 32 := Scalar.muli v454 c7_i32_336
  let v456 : BitVec 32 := Scalar.subi v437 v455
  let v642 : Index := Scalar.indexCast v456
  let c0_i32_338 : BitVec 32 := 0#32
  let c1_i32_340 : BitVec 32 := 1#32
  let arg15 : BitVec 32 := Scf.iv c0_i32_338 c1_i32_340 k0_t4
  let v643 : Index := Scalar.indexCast arg15
  let c0_408 : Index := 0#32
  ![v641.toNat, v642.toNat, v643.toNat, 0]
def k0_off84 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v653 : Index := Scalar.indexCast v454
  let c0_412 : Index := 0#32
  let c0_413 : Index := 0#32
  let c0_414 : Index := 0#32
  ![v653.toNat, 0, 0, 0]
def k0_off85 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v669 : Index := Scalar.indexCast v454
  let c1_418 : Index := 1#32
  let c0_419 : Index := 0#32
  let c0_420 : Index := 0#32
  ![v669.toNat, 1, 0, 0]
def k0_off86 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v685 : Index := Scalar.indexCast v454
  let c2_424 : Index := 2#32
  let c0_425 : Index := 0#32
  let c0_426 : Index := 0#32
  ![v685.toNat, 2, 0, 0]
def k0_off87 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v701 : Index := Scalar.indexCast v454
  let c3_430 : Index := 3#32
  let c0_431 : Index := 0#32
  let c0_432 : Index := 0#32
  ![v701.toNat, 3, 0, 0]
def k0_off88 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v717 : Index := Scalar.indexCast v454
  let c4_435 : Index := 4#32
  let c0_436 : Index := 0#32
  let c0_437 : Index := 0#32
  ![v717.toNat, 4, 0, 0]
def k0_off89 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v733 : Index := Scalar.indexCast v454
  let c5_440 : Index := 5#32
  let c0_441 : Index := 0#32
  let c0_442 : Index := 0#32
  ![v733.toNat, 5, 0, 0]
def k0_off90 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v749 : Index := Scalar.indexCast v454
  let c6_445 : Index := 6#32
  let c0_446 : Index := 0#32
  let c0_447 : Index := 0#32
  ![v749.toNat, 6, 0, 0]
def k0_off91 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v771 : Index := Scalar.indexCast v454
  let c0_452 : Index := 0#32
  let c0_453 : Index := 0#32
  let c0_454 : Index := 0#32
  ![v771.toNat, 0, 0, 0]
def k0_off92 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v785 : Index := Scalar.indexCast v454
  let c1_458 : Index := 1#32
  let c0_459 : Index := 0#32
  let c0_460 : Index := 0#32
  ![v785.toNat, 1, 0, 0]
def k0_off93 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v799 : Index := Scalar.indexCast v454
  let c2_464 : Index := 2#32
  let c0_465 : Index := 0#32
  let c0_466 : Index := 0#32
  ![v799.toNat, 2, 0, 0]
def k0_off94 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v813 : Index := Scalar.indexCast v454
  let c3_470 : Index := 3#32
  let c0_471 : Index := 0#32
  let c0_472 : Index := 0#32
  ![v813.toNat, 3, 0, 0]
def k0_off95 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v827 : Index := Scalar.indexCast v454
  let c4_476 : Index := 4#32
  let c0_477 : Index := 0#32
  let c0_478 : Index := 0#32
  ![v827.toNat, 4, 0, 0]
def k0_off96 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v841 : Index := Scalar.indexCast v454
  let c5_482 : Index := 5#32
  let c0_483 : Index := 0#32
  let c0_484 : Index := 0#32
  ![v841.toNat, 5, 0, 0]
def k0_off97 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v855 : Index := Scalar.indexCast v454
  let c6_488 : Index := 6#32
  let c0_489 : Index := 0#32
  let c0_490 : Index := 0#32
  ![v855.toNat, 6, 0, 0]
def k0_off98 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v873 : Index := Scalar.indexCast v454
  let c0_496 : Index := 0#32
  let c8_497 : Index := 8#32
  let c0_498 : Index := 0#32
  ![v873.toNat, 0, 8, 0]
def k0_off99 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v887 : Index := Scalar.indexCast v454
  let c1_502 : Index := 1#32
  let c8_503 : Index := 8#32
  let c0_504 : Index := 0#32
  ![v887.toNat, 1, 8, 0]
def k0_off100 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v901 : Index := Scalar.indexCast v454
  let c2_508 : Index := 2#32
  let c8_509 : Index := 8#32
  let c0_510 : Index := 0#32
  ![v901.toNat, 2, 8, 0]
def k0_off101 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v915 : Index := Scalar.indexCast v454
  let c3_514 : Index := 3#32
  let c8_515 : Index := 8#32
  let c0_516 : Index := 0#32
  ![v915.toNat, 3, 8, 0]
def k0_off102 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v929 : Index := Scalar.indexCast v454
  let c4_520 : Index := 4#32
  let c8_521 : Index := 8#32
  let c0_522 : Index := 0#32
  ![v929.toNat, 4, 8, 0]
def k0_off103 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v943 : Index := Scalar.indexCast v454
  let c5_526 : Index := 5#32
  let c8_527 : Index := 8#32
  let c0_528 : Index := 0#32
  ![v943.toNat, 5, 8, 0]
def k0_off104 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v957 : Index := Scalar.indexCast v454
  let c6_532 : Index := 6#32
  let c8_533 : Index := 8#32
  let c0_534 : Index := 0#32
  ![v957.toNat, 6, 8, 0]
def k0_off105 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v975 : Index := Scalar.indexCast v454
  let c0_540 : Index := 0#32
  let c16_541 : Index := 16#32
  let c0_542 : Index := 0#32
  ![v975.toNat, 0, 16, 0]
def k0_off106 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v989 : Index := Scalar.indexCast v454
  let c1_546 : Index := 1#32
  let c16_547 : Index := 16#32
  let c0_548 : Index := 0#32
  ![v989.toNat, 1, 16, 0]
def k0_off107 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1003 : Index := Scalar.indexCast v454
  let c2_552 : Index := 2#32
  let c16_553 : Index := 16#32
  let c0_554 : Index := 0#32
  ![v1003.toNat, 2, 16, 0]
def k0_off108 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1017 : Index := Scalar.indexCast v454
  let c3_558 : Index := 3#32
  let c16_559 : Index := 16#32
  let c0_560 : Index := 0#32
  ![v1017.toNat, 3, 16, 0]
def k0_off109 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1031 : Index := Scalar.indexCast v454
  let c4_564 : Index := 4#32
  let c16_565 : Index := 16#32
  let c0_566 : Index := 0#32
  ![v1031.toNat, 4, 16, 0]
def k0_off110 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1045 : Index := Scalar.indexCast v454
  let c5_570 : Index := 5#32
  let c16_571 : Index := 16#32
  let c0_572 : Index := 0#32
  ![v1045.toNat, 5, 16, 0]
def k0_off111 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1059 : Index := Scalar.indexCast v454
  let c6_576 : Index := 6#32
  let c16_577 : Index := 16#32
  let c0_578 : Index := 0#32
  ![v1059.toNat, 6, 16, 0]
def k0_off112 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1077 : Index := Scalar.indexCast v454
  let c0_584 : Index := 0#32
  let c24_585 : Index := 24#32
  let c0_586 : Index := 0#32
  ![v1077.toNat, 0, 24, 0]
def k0_off113 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1091 : Index := Scalar.indexCast v454
  let c1_590 : Index := 1#32
  let c24_591 : Index := 24#32
  let c0_592 : Index := 0#32
  ![v1091.toNat, 1, 24, 0]
def k0_off114 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1105 : Index := Scalar.indexCast v454
  let c2_596 : Index := 2#32
  let c24_597 : Index := 24#32
  let c0_598 : Index := 0#32
  ![v1105.toNat, 2, 24, 0]
def k0_off115 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1119 : Index := Scalar.indexCast v454
  let c3_602 : Index := 3#32
  let c24_603 : Index := 24#32
  let c0_604 : Index := 0#32
  ![v1119.toNat, 3, 24, 0]
def k0_off116 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1133 : Index := Scalar.indexCast v454
  let c4_608 : Index := 4#32
  let c24_609 : Index := 24#32
  let c0_610 : Index := 0#32
  ![v1133.toNat, 4, 24, 0]
def k0_off117 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1147 : Index := Scalar.indexCast v454
  let c5_614 : Index := 5#32
  let c24_615 : Index := 24#32
  let c0_616 : Index := 0#32
  ![v1147.toNat, 5, 24, 0]
def k0_off118 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1161 : Index := Scalar.indexCast v454
  let c6_620 : Index := 6#32
  let c24_621 : Index := 24#32
  let c0_622 : Index := 0#32
  ![v1161.toNat, 6, 24, 0]
def k0_off119 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1179 : Index := Scalar.indexCast v454
  let c0_628 : Index := 0#32
  let c32_629 : Index := 32#32
  let c0_630 : Index := 0#32
  ![v1179.toNat, 0, 32, 0]
def k0_off120 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1193 : Index := Scalar.indexCast v454
  let c1_634 : Index := 1#32
  let c32_635 : Index := 32#32
  let c0_636 : Index := 0#32
  ![v1193.toNat, 1, 32, 0]
def k0_off121 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1207 : Index := Scalar.indexCast v454
  let c2_640 : Index := 2#32
  let c32_641 : Index := 32#32
  let c0_642 : Index := 0#32
  ![v1207.toNat, 2, 32, 0]
def k0_off122 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1221 : Index := Scalar.indexCast v454
  let c3_646 : Index := 3#32
  let c32_647 : Index := 32#32
  let c0_648 : Index := 0#32
  ![v1221.toNat, 3, 32, 0]
def k0_off123 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1235 : Index := Scalar.indexCast v454
  let c4_652 : Index := 4#32
  let c32_653 : Index := 32#32
  let c0_654 : Index := 0#32
  ![v1235.toNat, 4, 32, 0]
def k0_off124 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1249 : Index := Scalar.indexCast v454
  let c5_658 : Index := 5#32
  let c32_659 : Index := 32#32
  let c0_660 : Index := 0#32
  ![v1249.toNat, 5, 32, 0]
def k0_off125 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1263 : Index := Scalar.indexCast v454
  let c6_664 : Index := 6#32
  let c32_665 : Index := 32#32
  let c0_666 : Index := 0#32
  ![v1263.toNat, 6, 32, 0]
def k0_off126 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1281 : Index := Scalar.indexCast v454
  let c0_672 : Index := 0#32
  let c40 : Index := 40#32
  let c0_673 : Index := 0#32
  ![v1281.toNat, 0, 40, 0]
def k0_off127 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1295 : Index := Scalar.indexCast v454
  let c1_677 : Index := 1#32
  let c40_678 : Index := 40#32
  let c0_679 : Index := 0#32
  ![v1295.toNat, 1, 40, 0]
def k0_off128 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1309 : Index := Scalar.indexCast v454
  let c2_683 : Index := 2#32
  let c40_684 : Index := 40#32
  let c0_685 : Index := 0#32
  ![v1309.toNat, 2, 40, 0]
def k0_off129 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1323 : Index := Scalar.indexCast v454
  let c3_689 : Index := 3#32
  let c40_690 : Index := 40#32
  let c0_691 : Index := 0#32
  ![v1323.toNat, 3, 40, 0]
def k0_off130 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1337 : Index := Scalar.indexCast v454
  let c4_695 : Index := 4#32
  let c40_696 : Index := 40#32
  let c0_697 : Index := 0#32
  ![v1337.toNat, 4, 40, 0]
def k0_off131 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1351 : Index := Scalar.indexCast v454
  let c5_701 : Index := 5#32
  let c40_702 : Index := 40#32
  let c0_703 : Index := 0#32
  ![v1351.toNat, 5, 40, 0]
def k0_off132 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1365 : Index := Scalar.indexCast v454
  let c6_707 : Index := 6#32
  let c40_708 : Index := 40#32
  let c0_709 : Index := 0#32
  ![v1365.toNat, 6, 40, 0]
def k0_off133 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1383 : Index := Scalar.indexCast v454
  let c0_715 : Index := 0#32
  let c48 : Index := 48#32
  let c0_716 : Index := 0#32
  ![v1383.toNat, 0, 48, 0]
def k0_off134 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1397 : Index := Scalar.indexCast v454
  let c1_720 : Index := 1#32
  let c48_721 : Index := 48#32
  let c0_722 : Index := 0#32
  ![v1397.toNat, 1, 48, 0]
def k0_off135 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1411 : Index := Scalar.indexCast v454
  let c2_726 : Index := 2#32
  let c48_727 : Index := 48#32
  let c0_728 : Index := 0#32
  ![v1411.toNat, 2, 48, 0]
def k0_off136 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1425 : Index := Scalar.indexCast v454
  let c3_732 : Index := 3#32
  let c48_733 : Index := 48#32
  let c0_734 : Index := 0#32
  ![v1425.toNat, 3, 48, 0]
def k0_off137 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1439 : Index := Scalar.indexCast v454
  let c4_738 : Index := 4#32
  let c48_739 : Index := 48#32
  let c0_740 : Index := 0#32
  ![v1439.toNat, 4, 48, 0]
def k0_off138 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1453 : Index := Scalar.indexCast v454
  let c5_744 : Index := 5#32
  let c48_745 : Index := 48#32
  let c0_746 : Index := 0#32
  ![v1453.toNat, 5, 48, 0]
def k0_off139 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1467 : Index := Scalar.indexCast v454
  let c6_750 : Index := 6#32
  let c48_751 : Index := 48#32
  let c0_752 : Index := 0#32
  ![v1467.toNat, 6, 48, 0]
def k0_off140 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1485 : Index := Scalar.indexCast v454
  let c0_758 : Index := 0#32
  let c56 : Index := 56#32
  let c0_759 : Index := 0#32
  ![v1485.toNat, 0, 56, 0]
def k0_off141 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1499 : Index := Scalar.indexCast v454
  let c1_763 : Index := 1#32
  let c56_764 : Index := 56#32
  let c0_765 : Index := 0#32
  ![v1499.toNat, 1, 56, 0]
def k0_off142 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1513 : Index := Scalar.indexCast v454
  let c2_769 : Index := 2#32
  let c56_770 : Index := 56#32
  let c0_771 : Index := 0#32
  ![v1513.toNat, 2, 56, 0]
def k0_off143 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1527 : Index := Scalar.indexCast v454
  let c3_775 : Index := 3#32
  let c56_776 : Index := 56#32
  let c0_777 : Index := 0#32
  ![v1527.toNat, 3, 56, 0]
def k0_off144 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1541 : Index := Scalar.indexCast v454
  let c4_781 : Index := 4#32
  let c56_782 : Index := 56#32
  let c0_783 : Index := 0#32
  ![v1541.toNat, 4, 56, 0]
def k0_off145 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1555 : Index := Scalar.indexCast v454
  let c5_787 : Index := 5#32
  let c56_788 : Index := 56#32
  let c0_789 : Index := 0#32
  ![v1555.toNat, 5, 56, 0]
def k0_off146 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1569 : Index := Scalar.indexCast v454
  let c6_793 : Index := 6#32
  let c56_794 : Index := 56#32
  let c0_795 : Index := 0#32
  ![v1569.toNat, 6, 56, 0]
def k0_off147 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1587 : Index := Scalar.indexCast v454
  let c0_801 : Index := 0#32
  let c64_802 : Index := 64#32
  let c0_803 : Index := 0#32
  ![v1587.toNat, 0, 64, 0]
def k0_off148 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1601 : Index := Scalar.indexCast v454
  let c1_807 : Index := 1#32
  let c64_808 : Index := 64#32
  let c0_809 : Index := 0#32
  ![v1601.toNat, 1, 64, 0]
def k0_off149 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1615 : Index := Scalar.indexCast v454
  let c2_813 : Index := 2#32
  let c64_814 : Index := 64#32
  let c0_815 : Index := 0#32
  ![v1615.toNat, 2, 64, 0]
def k0_off150 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1629 : Index := Scalar.indexCast v454
  let c3_819 : Index := 3#32
  let c64_820 : Index := 64#32
  let c0_821 : Index := 0#32
  ![v1629.toNat, 3, 64, 0]
def k0_off151 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1643 : Index := Scalar.indexCast v454
  let c4_825 : Index := 4#32
  let c64_826 : Index := 64#32
  let c0_827 : Index := 0#32
  ![v1643.toNat, 4, 64, 0]
def k0_off152 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1657 : Index := Scalar.indexCast v454
  let c5_831 : Index := 5#32
  let c64_832 : Index := 64#32
  let c0_833 : Index := 0#32
  ![v1657.toNat, 5, 64, 0]
def k0_off153 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1671 : Index := Scalar.indexCast v454
  let c6_837 : Index := 6#32
  let c64_838 : Index := 64#32
  let c0_839 : Index := 0#32
  ![v1671.toNat, 6, 64, 0]
def k0_off154 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1689 : Index := Scalar.indexCast v454
  let c0_845 : Index := 0#32
  let c72 : Index := 72#32
  let c0_846 : Index := 0#32
  ![v1689.toNat, 0, 72, 0]
def k0_off155 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1703 : Index := Scalar.indexCast v454
  let c1_850 : Index := 1#32
  let c72_851 : Index := 72#32
  let c0_852 : Index := 0#32
  ![v1703.toNat, 1, 72, 0]
def k0_off156 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1717 : Index := Scalar.indexCast v454
  let c2_856 : Index := 2#32
  let c72_857 : Index := 72#32
  let c0_858 : Index := 0#32
  ![v1717.toNat, 2, 72, 0]
def k0_off157 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1731 : Index := Scalar.indexCast v454
  let c3_862 : Index := 3#32
  let c72_863 : Index := 72#32
  let c0_864 : Index := 0#32
  ![v1731.toNat, 3, 72, 0]
def k0_off158 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1745 : Index := Scalar.indexCast v454
  let c4_868 : Index := 4#32
  let c72_869 : Index := 72#32
  let c0_870 : Index := 0#32
  ![v1745.toNat, 4, 72, 0]
def k0_off159 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1759 : Index := Scalar.indexCast v454
  let c5_874 : Index := 5#32
  let c72_875 : Index := 72#32
  let c0_876 : Index := 0#32
  ![v1759.toNat, 5, 72, 0]
def k0_off160 (k0_t2 : Fin k0_t2_loop.trips) : Fin 4 → Nat :=
  let c2_i32_327 : BitVec 32 := 2#32
  let c0_i32_310 : BitVec 32 := 0#32
  let c1_i32_311 : BitVec 32 := 1#32
  let arg14 : BitVec 32 := Scf.iv c0_i32_310 c1_i32_311 k0_t2
  let v436 : BitVec 32 := Scalar.muli c2_i32_327 arg14
  let c1_i32_328 : BitVec 32 := 1#32
  let v437 : BitVec 32 := Scalar.addi v436 c1_i32_328
  let c0_i32_330 : BitVec 32 := 0#32
  let v439 : BitVec 1 := Scalar.cmpi .sgt v437 c0_i32_330
  let v440 : BitVec 32 := Scalar.extui v439
  let c0_i32_331 : BitVec 32 := 0#32
  let v441 : BitVec 1 := Scalar.cmpi .slt v437 c0_i32_331
  let v442 : BitVec 32 := Scalar.extui v441
  let v443 : BitVec 32 := Scalar.subi v440 v442
  let c7_i32_329 : BitVec 32 := 7#32
  let c0_i32_332 : BitVec 32 := 0#32
  let v444 : BitVec 1 := Scalar.cmpi .sgt c7_i32_329 c0_i32_332
  let v445 : BitVec 32 := Scalar.extui v444
  let c0_i32_333 : BitVec 32 := 0#32
  let v446 : BitVec 1 := Scalar.cmpi .slt c7_i32_329 c0_i32_333
  let v447 : BitVec 32 := Scalar.extui v446
  let v448 : BitVec 32 := Scalar.subi v445 v447
  let v449 : BitVec 1 := Scalar.cmpi .ne v443 v448
  let v450 : BitVec 32 := Scalar.remsi v437 c7_i32_329
  let c0_i32_334 : BitVec 32 := 0#32
  let v451 : BitVec 1 := Scalar.cmpi .ne v450 c0_i32_334
  let v452 : BitVec 1 := Scalar.andi v449 v451
  let v438 : BitVec 32 := Scalar.divsi v437 c7_i32_329
  let c1_i32_335 : BitVec 32 := 1#32
  let v453 : BitVec 32 := Scalar.subi v438 c1_i32_335
  let v454 : BitVec 32 := Scalar.select v452 v453 v438
  let v1773 : Index := Scalar.indexCast v454
  let c6_880 : Index := 6#32
  let c72_881 : Index := 72#32
  let c0_882 : Index := 0#32
  ![v1773.toNat, 6, 72, 0]
def k0_mult4 (k0_t4 : Fin k0_t4_loop.trips) : BitVec 32 :=
  let c0_i32_338 : BitVec 32 := 0#32
  let c1_i32_340 : BitVec 32 := 1#32
  let arg15 : BitVec 32 := Scf.iv c0_i32_338 c1_i32_340 k0_t4
  let c256_i32 : BitVec 32 := 256#32
  let v1794 : BitVec 32 := Scalar.muli arg15 c256_i32
  v1794
def k0_off161 (k0_t4 : Fin k0_t4_loop.trips) : Fin 2 → Nat :=
  let c0_i32_338 : BitVec 32 := 0#32
  let c1_i32_340 : BitVec 32 := 1#32
  let arg15 : BitVec 32 := Scf.iv c0_i32_338 c1_i32_340 k0_t4
  let c256_i32 : BitVec 32 := 256#32
  let v1794 : BitVec 32 := Scalar.muli arg15 c256_i32
  let v1795 : BitVec 32 := v1794
  let v1796 : Index := Scalar.indexCast v1795
  let c128_886 : Index := 128#32
  ![v1796.toNat, 128]
def k0_mult5 (k0_t4 : Fin k0_t4_loop.trips) : BitVec 32 :=
  let c6912_i32 : BitVec 32 := 6912#32
  let c0_i32_338 : BitVec 32 := 0#32
  let c1_i32_340 : BitVec 32 := 1#32
  let arg15 : BitVec 32 := Scf.iv c0_i32_338 c1_i32_340 k0_t4
  let c64_i32 : BitVec 32 := 64#32
  let v1800 : BitVec 32 := Scalar.muli arg15 c64_i32
  let v1801 : BitVec 32 := Scalar.addi c6912_i32 v1800
  v1801
def k0_off162 (k0_t4 : Fin k0_t4_loop.trips) : Fin 2 → Nat :=
  let c6912_i32 : BitVec 32 := 6912#32
  let c0_i32_338 : BitVec 32 := 0#32
  let c1_i32_340 : BitVec 32 := 1#32
  let arg15 : BitVec 32 := Scf.iv c0_i32_338 c1_i32_340 k0_t4
  let c64_i32 : BitVec 32 := 64#32
  let v1800 : BitVec 32 := Scalar.muli arg15 c64_i32
  let v1801 : BitVec 32 := Scalar.addi c6912_i32 v1800
  let v1802 : BitVec 32 := v1801
  let v1804 : Index := Scalar.indexCast v1802
  let c128_887 : Index := 128#32
  ![v1804.toNat, 128]
def k0_mult6 (k0_t2 : Fin k0_t2_loop.trips) : BitVec 32 :=
  let c2_i32_349 : BitVec 32 := 2#32
  let c0_i32_310 : BitVec 32 := 0#32
  let c1_i32_311 : BitVec 32 := 1#32
  let arg14 : BitVec 32 := Scf.iv c0_i32_310 c1_i32_311 k0_t2
  let v465 : BitVec 32 := Scalar.muli c2_i32_349 arg14
  let c0_i32_350 : BitVec 32 := 0#32
  let v466 : BitVec 32 := Scalar.addi v465 c0_i32_350
  let c0_i32_352 : BitVec 32 := 0#32
  let v468 : BitVec 1 := Scalar.cmpi .sgt v466 c0_i32_352
  let v469 : BitVec 32 := Scalar.extui v468
  let c0_i32_353 : BitVec 32 := 0#32
  let v470 : BitVec 1 := Scalar.cmpi .slt v466 c0_i32_353
  let v471 : BitVec 32 := Scalar.extui v470
  let v472 : BitVec 32 := Scalar.subi v469 v471
  let c7_i32_351 : BitVec 32 := 7#32
  let c0_i32_354 : BitVec 32 := 0#32
  let v473 : BitVec 1 := Scalar.cmpi .sgt c7_i32_351 c0_i32_354
  let v474 : BitVec 32 := Scalar.extui v473
  let c0_i32_355 : BitVec 32 := 0#32
  let v475 : BitVec 1 := Scalar.cmpi .slt c7_i32_351 c0_i32_355
  let v476 : BitVec 32 := Scalar.extui v475
  let v477 : BitVec 32 := Scalar.subi v474 v476
  let v478 : BitVec 1 := Scalar.cmpi .ne v472 v477
  let v479 : BitVec 32 := Scalar.remsi v466 c7_i32_351
  let c0_i32_356 : BitVec 32 := 0#32
  let v480 : BitVec 1 := Scalar.cmpi .ne v479 c0_i32_356
  let v481 : BitVec 1 := Scalar.andi v478 v480
  let v467 : BitVec 32 := Scalar.divsi v466 c7_i32_351
  let c1_i32_357 : BitVec 32 := 1#32
  let v482 : BitVec 32 := Scalar.subi v467 c1_i32_357
  let v483 : BitVec 32 := Scalar.select v481 v482 v467
  let c7_i32_358 : BitVec 32 := 7#32
  let v484 : BitVec 32 := Scalar.muli v483 c7_i32_358
  let v485 : BitVec 32 := Scalar.subi v466 v484
  let c128_i32 : BitVec 32 := 128#32
  let v486 : BitVec 32 := Scalar.muli v485 c128_i32
  v486
def k0_off163 (k0_t2 : Fin k0_t2_loop.trips) (c0_i32_350 : BitVec 32) : Fin 3 → Nat :=
  let c2_i32_349 : BitVec 32 := 2#32
  let c0_i32_310 : BitVec 32 := 0#32
  let c1_i32_311 : BitVec 32 := 1#32
  let arg14 : BitVec 32 := Scf.iv c0_i32_310 c1_i32_311 k0_t2
  let v465 : BitVec 32 := Scalar.muli c2_i32_349 arg14
  let v466 : BitVec 32 := Scalar.addi v465 c0_i32_350
  let c0_i32_352 : BitVec 32 := 0#32
  let v468 : BitVec 1 := Scalar.cmpi .sgt v466 c0_i32_352
  let v469 : BitVec 32 := Scalar.extui v468
  let c0_i32_353 : BitVec 32 := 0#32
  let v470 : BitVec 1 := Scalar.cmpi .slt v466 c0_i32_353
  let v471 : BitVec 32 := Scalar.extui v470
  let v472 : BitVec 32 := Scalar.subi v469 v471
  let c7_i32_351 : BitVec 32 := 7#32
  let c0_i32_354 : BitVec 32 := 0#32
  let v473 : BitVec 1 := Scalar.cmpi .sgt c7_i32_351 c0_i32_354
  let v474 : BitVec 32 := Scalar.extui v473
  let c0_i32_355 : BitVec 32 := 0#32
  let v475 : BitVec 1 := Scalar.cmpi .slt c7_i32_351 c0_i32_355
  let v476 : BitVec 32 := Scalar.extui v475
  let v477 : BitVec 32 := Scalar.subi v474 v476
  let v478 : BitVec 1 := Scalar.cmpi .ne v472 v477
  let v479 : BitVec 32 := Scalar.remsi v466 c7_i32_351
  let c0_i32_356 : BitVec 32 := 0#32
  let v480 : BitVec 1 := Scalar.cmpi .ne v479 c0_i32_356
  let v481 : BitVec 1 := Scalar.andi v478 v480
  let v467 : BitVec 32 := Scalar.divsi v466 c7_i32_351
  let c1_i32_357 : BitVec 32 := 1#32
  let v482 : BitVec 32 := Scalar.subi v467 c1_i32_357
  let v483 : BitVec 32 := Scalar.select v481 v482 v467
  let v489 : Index := Scalar.indexCast v483
  let c7_i32_358 : BitVec 32 := 7#32
  let v484 : BitVec 32 := Scalar.muli v483 c7_i32_358
  let v485 : BitVec 32 := Scalar.subi v466 v484
  let c128_i32 : BitVec 32 := 128#32
  let v486 : BitVec 32 := Scalar.muli v485 c128_i32
  let v487 : BitVec 32 := v486
  let v490 : Index := Scalar.indexCast v487
  let c0_361 : Index := 0#32
  ![v489.toNat, v490.toNat, 0]
def k0_off164 (k0_t2 : Fin k0_t2_loop.trips) (c0_i32_350 : BitVec 32) : Fin 4 → Nat :=
  let c2_i32_349 : BitVec 32 := 2#32
  let c0_i32_310 : BitVec 32 := 0#32
  let c1_i32_311 : BitVec 32 := 1#32
  let arg14 : BitVec 32 := Scf.iv c0_i32_310 c1_i32_311 k0_t2
  let v465 : BitVec 32 := Scalar.muli c2_i32_349 arg14
  let v466 : BitVec 32 := Scalar.addi v465 c0_i32_350
  let c0_i32_352 : BitVec 32 := 0#32
  let v468 : BitVec 1 := Scalar.cmpi .sgt v466 c0_i32_352
  let v469 : BitVec 32 := Scalar.extui v468
  let c0_i32_353 : BitVec 32 := 0#32
  let v470 : BitVec 1 := Scalar.cmpi .slt v466 c0_i32_353
  let v471 : BitVec 32 := Scalar.extui v470
  let v472 : BitVec 32 := Scalar.subi v469 v471
  let c7_i32_351 : BitVec 32 := 7#32
  let c0_i32_354 : BitVec 32 := 0#32
  let v473 : BitVec 1 := Scalar.cmpi .sgt c7_i32_351 c0_i32_354
  let v474 : BitVec 32 := Scalar.extui v473
  let c0_i32_355 : BitVec 32 := 0#32
  let v475 : BitVec 1 := Scalar.cmpi .slt c7_i32_351 c0_i32_355
  let v476 : BitVec 32 := Scalar.extui v475
  let v477 : BitVec 32 := Scalar.subi v474 v476
  let v478 : BitVec 1 := Scalar.cmpi .ne v472 v477
  let v479 : BitVec 32 := Scalar.remsi v466 c7_i32_351
  let c0_i32_356 : BitVec 32 := 0#32
  let v480 : BitVec 1 := Scalar.cmpi .ne v479 c0_i32_356
  let v481 : BitVec 1 := Scalar.andi v478 v480
  let v467 : BitVec 32 := Scalar.divsi v466 c7_i32_351
  let c1_i32_357 : BitVec 32 := 1#32
  let v482 : BitVec 32 := Scalar.subi v467 c1_i32_357
  let v483 : BitVec 32 := Scalar.select v481 v482 v467
  let v548 : Index := Scalar.indexCast v483
  let c7_i32_358 : BitVec 32 := 7#32
  let v484 : BitVec 32 := Scalar.muli v483 c7_i32_358
  let v485 : BitVec 32 := Scalar.subi v466 v484
  let v549 : Index := Scalar.indexCast v485
  let c0_375 : Index := 0#32
  let c0_376 : Index := 0#32
  ![v548.toNat, v549.toNat, 0, 0]
def k0_mult7 (k0_t2 : Fin k0_t2_loop.trips) : BitVec 32 :=
  let c2_i32_377 : BitVec 32 := 2#32
  let c0_i32_310 : BitVec 32 := 0#32
  let c1_i32_311 : BitVec 32 := 1#32
  let arg14 : BitVec 32 := Scf.iv c0_i32_310 c1_i32_311 k0_t2
  let v553 : BitVec 32 := Scalar.muli c2_i32_377 arg14
  let c1_i32_378 : BitVec 32 := 1#32
  let v554 : BitVec 32 := Scalar.addi v553 c1_i32_378
  let c0_i32_380 : BitVec 32 := 0#32
  let v556 : BitVec 1 := Scalar.cmpi .sgt v554 c0_i32_380
  let v557 : BitVec 32 := Scalar.extui v556
  let c0_i32_381 : BitVec 32 := 0#32
  let v558 : BitVec 1 := Scalar.cmpi .slt v554 c0_i32_381
  let v559 : BitVec 32 := Scalar.extui v558
  let v560 : BitVec 32 := Scalar.subi v557 v559
  let c7_i32_379 : BitVec 32 := 7#32
  let c0_i32_382 : BitVec 32 := 0#32
  let v561 : BitVec 1 := Scalar.cmpi .sgt c7_i32_379 c0_i32_382
  let v562 : BitVec 32 := Scalar.extui v561
  let c0_i32_383 : BitVec 32 := 0#32
  let v563 : BitVec 1 := Scalar.cmpi .slt c7_i32_379 c0_i32_383
  let v564 : BitVec 32 := Scalar.extui v563
  let v565 : BitVec 32 := Scalar.subi v562 v564
  let v566 : BitVec 1 := Scalar.cmpi .ne v560 v565
  let v567 : BitVec 32 := Scalar.remsi v554 c7_i32_379
  let c0_i32_384 : BitVec 32 := 0#32
  let v568 : BitVec 1 := Scalar.cmpi .ne v567 c0_i32_384
  let v569 : BitVec 1 := Scalar.andi v566 v568
  let v555 : BitVec 32 := Scalar.divsi v554 c7_i32_379
  let c1_i32_385 : BitVec 32 := 1#32
  let v570 : BitVec 32 := Scalar.subi v555 c1_i32_385
  let v571 : BitVec 32 := Scalar.select v569 v570 v555
  let c7_i32_386 : BitVec 32 := 7#32
  let v572 : BitVec 32 := Scalar.muli v571 c7_i32_386
  let v573 : BitVec 32 := Scalar.subi v554 v572
  let c128_i32_387 : BitVec 32 := 128#32
  let v574 : BitVec 32 := Scalar.muli v573 c128_i32_387
  v574
abbrev stage0_0 : Fin 1 → Memref sig .tc .vmem S2x896x320 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x27 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x320x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x7x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x896x320 : Shape := ⟨3, ![2, 896, 320]⟩
abbrev S2x896 : Shape := ⟨2, ![2, 896]⟩
abbrev S2x896x27 : Shape := ⟨3, ![2, 896, 27]⟩
abbrev S27x320x384 : Shape := ⟨3, ![27, 320, 384]⟩
abbrev S384 : Shape := ⟨1, ![384]⟩
abbrev S2x896x384 : Shape := ⟨3, ![2, 896, 384]⟩
abbrev S_ : Shape := ⟨0, ![]⟩
abbrev S1792x27 : Shape := ⟨2, ![1792, 27]⟩
abbrev S2 : Shape := ⟨1, ![2]⟩
abbrev S2x1x1 : Shape := ⟨3, ![2, 1, 1]⟩
abbrev S48384 : Shape := ⟨1, ![48384]⟩
abbrev S1792x320 : Shape := ⟨2, ![1792, 320]⟩
abbrev S48384x1 : Shape := ⟨2, ![48384, 1]⟩
abbrev S48384x320 : Shape := ⟨2, ![48384, 320]⟩
abbrev S1792 : Shape := ⟨1, ![1792]⟩
abbrev S1792x8640 : Shape := ⟨2, ![1792, 8640]⟩
abbrev S1792x27x1 : Shape := ⟨3, ![1792, 27, 1]⟩
abbrev S1792x27x320 : Shape := ⟨3, ![1792, 27, 320]⟩
abbrev S8640x384 : Shape := ⟨2, ![8640, 384]⟩
abbrev S1x384 : Shape := ⟨2, ![1, 384]⟩
abbrev S1792x384 : Shape := ⟨2, ![1792, 384]⟩
abbrev S2x7x1x128 : Shape := ⟨4, ![2, 7, 1, 128]⟩
abbrev S2x7x128x384 : Shape := ⟨4, ![2, 7, 128, 384]⟩
abbrev S2x7x128 : Shape := ⟨3, ![2, 7, 128]⟩
abbrev S2x7x128x1 : Shape := ⟨4, ![2, 7, 128, 1]⟩

abbrev nBuf : Space → Nat
  | .hbm => 43
  | .vmem => 9
  | .smem => 0
  | _ => 0

abbrev bufTy : (tb : Table) → Fin (tcTables nBuf tb) → BufTy
  | .hbm, ⟨0, _⟩ => ⟨S2x896x320, .i8⟩
  | .hbm, ⟨1, _⟩ => ⟨S2x896, .f32⟩
  | .hbm, ⟨2, _⟩ => ⟨S2x896x27, .i32⟩
  | .hbm, ⟨3, _⟩ => ⟨S27x320x384, .fp8e4m3⟩
  | .hbm, ⟨4, _⟩ => ⟨S384, .f32⟩
  | .hbm, ⟨5, _⟩ => ⟨S384, .f32⟩
  | .hbm, ⟨6, _⟩ => ⟨S2x896x384, .bf16⟩
  | .hbm, ⟨7, _⟩ => ⟨S_, .i32⟩
  | .hbm, ⟨8, _⟩ => ⟨S2x896x27, .i32⟩
  | .hbm, ⟨9, _⟩ => ⟨S2x896x27, .i1⟩
  | .hbm, ⟨10, _⟩ => ⟨S1792x27, .i1⟩
  | .hbm, ⟨11, _⟩ => ⟨S_, .i32⟩
  | .hbm, ⟨12, _⟩ => ⟨S2x896x27, .i32⟩
  | .hbm, ⟨13, _⟩ => ⟨S2x896x27, .i32⟩
  | .hbm, ⟨14, _⟩ => ⟨S2, .i32⟩
  | .hbm, ⟨15, _⟩ => ⟨S_, .i32⟩
  | .hbm, ⟨16, _⟩ => ⟨S2, .i32⟩
  | .hbm, ⟨17, _⟩ => ⟨S2, .i32⟩
  | .hbm, ⟨18, _⟩ => ⟨S2x1x1, .i32⟩
  | .hbm, ⟨19, _⟩ => ⟨S2x896x27, .i32⟩
  | .hbm, ⟨20, _⟩ => ⟨S2x896x27, .i32⟩
  | .hbm, ⟨21, _⟩ => ⟨S48384, .i32⟩
  | .hbm, ⟨22, _⟩ => ⟨S1792x320, .i8⟩
  | .hbm, ⟨23, _⟩ => ⟨S48384x1, .i32⟩
  | .hbm, ⟨24, _⟩ => ⟨S48384x320, .i8⟩
  | .hbm, ⟨25, _⟩ => ⟨S1792, .f32⟩
  | .hbm, ⟨26, _⟩ => ⟨S48384x1, .i32⟩
  | .hbm, ⟨27, _⟩ => ⟨S48384, .f32⟩
  | .hbm, ⟨28, _⟩ => ⟨S1792x27, .f32⟩
  | .hbm, ⟨29, _⟩ => ⟨S1792x8640, .i8⟩
  | .hbm, ⟨30, _⟩ => ⟨S1792x27x1, .f32⟩
  | .hbm, ⟨31, _⟩ => ⟨S1792x27x320, .f32⟩
  | .hbm, ⟨32, _⟩ => ⟨S1792x8640, .f32⟩
  | .hbm, ⟨33, _⟩ => ⟨S1792x27, .i32⟩
  | .hbm, ⟨34, _⟩ => ⟨S1792x27x1, .i32⟩
  | .hbm, ⟨35, _⟩ => ⟨S1792x27x320, .i32⟩
  | .hbm, ⟨36, _⟩ => ⟨S1792x8640, .i32⟩
  | .hbm, ⟨37, _⟩ => ⟨S8640x384, .fp8e4m3⟩
  | .hbm, ⟨38, _⟩ => ⟨S1x384, .f32⟩
  | .hbm, ⟨39, _⟩ => ⟨S1x384, .f32⟩
  | .hbm, ⟨40, _⟩ => ⟨S1792x384, .bf16⟩
  | .hbm, ⟨41, _⟩ => ⟨S2x896x384, .fp8e4m3⟩
  | .hbm, ⟨42, _⟩ => ⟨S2x7x1x128, .f32⟩
  | .local _ .vmem, ⟨0, _⟩ => ⟨S1792x8640, .i8⟩
  | .local _ .vmem, ⟨1, _⟩ => ⟨S1792x8640, .f32⟩
  | .local _ .vmem, ⟨2, _⟩ => ⟨S1792x8640, .i32⟩
  | .local _ .vmem, ⟨3, _⟩ => ⟨S8640x384, .fp8e4m3⟩
  | .local _ .vmem, ⟨4, _⟩ => ⟨S1x384, .f32⟩
  | .local _ .vmem, ⟨5, _⟩ => ⟨S1x384, .f32⟩
  | .local _ .vmem, ⟨6, _⟩ => ⟨S1792x384, .bf16⟩
  | .local _ .vmem, ⟨7, _⟩ => ⟨S2x896x384, .fp8e4m3⟩
  | .local _ .vmem, ⟨8, _⟩ => ⟨S2x7x1x128, .f32⟩
  | _, _ => ⟨S2x896x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1792x8640 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x8640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x8640 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8640x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x7x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.lean ====
/- The frame of `Kernel`: every execution terminates without a fault, the argument arrays end as launched, and every
   counter ends at zero. Of what the kernel leaves in its results nothing is said here, so the results' windows are
   FORGOTTEN (Lib/Pipeline/Dat.lean `Dat.toRForget`) and the outer loop's invariant keeps the buffers the trips write at some
   contents. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The loop over the pairs of tiles -/

set_option warn.classDefReducibility false in
set_option maxHeartbeats 4000000 in
/-- The loop over the pairs of row tiles: the scales, the skip rows, the packed codes, the packed neighbour indices and the
    transposed weights are only read; the gathered rows, the accumulator and the two results are each held at some contents. -/
@[sl_loop] def loopInv_t2 (c : Dev nD)
    (arg0 : Memref sig .tc .vmem S2x896x320 .i8) (harg0 : arg0.IsWhole)
    (arg1 : Memref sig .tc .vmem S2x7x1x128 .f32) (harg1 : arg1.IsWhole)
    (arg2 : Memref sig .tc .vmem S2x896x27 .i32) (harg2 : arg2.IsWhole)
    (arg3 : Memref sig .tc .vmem S27x320x384 .fp8e4m3) (harg3 : arg3.IsWhole)
    (arg4 : Memref sig .tc .vmem S1x384 .f32) (harg4 : arg4.IsWhole)
    (arg5 : Memref sig .tc .vmem S1x384 .f32) (harg5 : arg5.IsWhole)
    (arg6 : Memref sig .tc .vmem S2x896x384 .bf16) (harg6 : arg6.IsWhole)
    (arg7 : Memref sig .tc .vmem S2x896x384 .fp8e4m3) (harg7 : arg7.IsWhole)
    (arg8 : Memref sig .tc .vmem S2x7x1x128 .f32) (harg8 : arg8.IsWhole)
    (arg9 : Memref sig .tc .vmem S2x7x80x128 .i32) (harg9 : arg9.IsWhole)
    (arg10 : Memref sig .tc .vmem S2x7x27x128 .i32) (harg10 : arg10.IsWhole)
    (arg11 : Memref sig .tc .vmem S384x8704 .bf16) (harg11 : arg11.IsWhole)
    (arg12 : Memref sig .tc .vmem S8704x256 .bf16) (harg12 : arg12.IsWhole)
    (arg13 : Memref sig .tc .vmem S384x256 .f32) (harg13 : arg13.IsWhole)
    (v404 : FVec F S384x1 .f32) (v407 : FVec F S384x1 .f32)
    (X1 : BufTy.Contents (Elt F) arg1.view.ty) (X6 : BufTy.Contents (Elt F) arg6.view.ty) (X9 : BufTy.Contents (Elt F) arg9.view.ty) (X10 : BufTy.Contents (Elt F) arg10.view.ty) (X11 : BufTy.Contents (Elt F) arg11.view.ty) :
    LoopInvTy_k0_t2 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 v404 v407 where
  inv := fun _ _ => iprop((arg1.view.loc (c : Thread nD τ) ↦[arg1.view.set]{fullShare} X1) ∗ (arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg7.view.loc (c : Thread nD τ) ↦[arg7.view.set]{fullShare} f)) ∗ (∃ f, (arg8.view.loc (c : Thread nD τ) ↦[arg8.view.set]{fullShare} f)) ∗ (∃ f, (arg12.view.loc (c : Thread nD τ) ↦[arg12.view.set]{fullShare} f)) ∗ (∃ f, (arg13.view.loc (c : Thread nD τ) ↦[arg13.view.set]{fullShare} f)))
  step := fun k acc => by
    iintro ⟨H1, H6, H9, H10, H11, ⟨%f7, H7⟩, ⟨%f8, H8⟩, ⟨%f12, H12⟩, ⟨%f13, H13⟩⟩
    unfold k0_t2_body
    sl_exec
    sl_step
    sl_close

/-! ## The body's triple -/

set_option maxHeartbeats 4000000 in
/-- The body on whole memrefs, every operand at some contents: the seven inputs come back as they were. -/
theorem sound_kernel (c : Dev nD)
    (arg0 : Memref sig .tc .vmem S2x896x320 .i8) (harg0 : arg0.IsWhole)
    (arg1 : Memref sig .tc .vmem S2x7x1x128 .f32) (harg1 : arg1.IsWhole)
    (arg2 : Memref sig .tc .vmem S2x896x27 .i32) (harg2 : arg2.IsWhole)
    (arg3 : Memref sig .tc .vmem S27x320x384 .fp8e4m3) (harg3 : arg3.IsWhole)
    (arg4 : Memref sig .tc .vmem S1x384 .f32) (harg4 : arg4.IsWhole)
    (arg5 : Memref sig .tc .vmem S1x384 .f32) (harg5 : arg5.IsWhole)
    (arg6 : Memref sig .tc .vmem S2x896x384 .bf16) (harg6 : arg6.IsWhole)
    (arg7 : Memref sig .tc .vmem S2x896x384 .fp8e4m3) (harg7 : arg7.IsWhole)
    (arg8 : Memref sig .tc .vmem S2x7x1x128 .f32) (harg8 : arg8.IsWhole)
    (arg9 : Memref sig .tc .vmem S2x7x80x128 .i32) (harg9 : arg9.IsWhole)
    (arg10 : Memref sig .tc .vmem S2x7x27x128 .i32) (harg10 : arg10.IsWhole)
    (arg11 : Memref sig .tc .vmem S384x8704 .bf16) (harg11 : arg11.IsWhole)
    (arg12 : Memref sig .tc .vmem S8704x256 .bf16) (harg12 : arg12.IsWhole)
    (arg13 : Memref sig .tc .vmem S384x256 .f32) (harg13 : arg13.IsWhole)
    (x0 : Vec F S2x896x320 .i8) (x1 : Vec F S2x7x1x128 .f32) (x2 : Vec F S2x896x27 .i32) (x3 : Vec F S27x320x384 .fp8e4m3) (x4 : Vec F S1x384 .f32) (x5 : Vec F S1x384 .f32) (x6 : Vec F S2x896x384 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0__kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

variable (m : (ℓ : Loc nD τ sig) → Buf (Elt F) ℓ) (ρ : Dev nD → PrngReg)

/-! ## The proof data -/

/-- The windows of the two results, of which nothing is said. -/
abbrev fgt (w : Fin cfg0.W) : Bool := w.val == 7 || w.val == 8

/-- The proof data of the one pipeline: an input's buffer keeps its block; the results' are forgotten, so what stands
    there is not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's staging buffer holds its block when the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X))

set_option maxHeartbeats 1000000 in
/-- The body at the grid's point: the scratch buffers are taken out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  iintro ⟨⟨⟨⟨%g9, H9⟩, ⟨%g10, H10⟩, ⟨%g11, H11⟩, ⟨%g12, H12⟩, ⟨%g13, H13⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists g9; rw [owns_whole]; iexact H9
  isplitl [H10]; · iexists g10; rw [owns_whole]; iexact H10
  isplitl [H11]; · iexists g11; rw [owns_whole]; iexact H11
  isplitl [H12]; · iexists g12; rw [owns_whole]; iexact H12
  isplitl [H13]; · iexists g13; rw [owns_whole]; iexact H13
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩⟩
  simp only [owns_whole (c : Thread nD τ) cc0_scratch0, owns_whole (c : Thread nD τ) cc0_scratch1, owns_whole (c : Thread nD τ) cc0_scratch2,
    owns_whole (c : Thread nD τ) cc0_scratch3, owns_whole (c : Thread nD τ) cc0_scratch4]
  isplitl [H9 H10 H11 H12 H13 Hr]
  · isplitr [Hr]
    · isplitl [H9]; · iexists _; iexact H9
      isplitl [H10]; · iexists _; iexact H10
      isplitl [H11]; · iexists _; iexact H11
      isplitl [H12]; · iexists _; iexact H12
      iexists _; iexact H13
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

/-- The body table's row is the body. -/
theorem defs₀_row (t : Fin cfg0.N) :
    defs₀ (F := F) .tc cfg0.body (cfg0.bodyArgs t (cfg0.slots t)) = bodyAt0 t := by
  unfold defs₀; rw [Defs.onTc_tc]

/-- The library's body obligation, the results' windows forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array no forgotten window writes is as the library computes it, and every counter ends at zero. -/
theorem run_main : θ_run defs (onTc (τ := τ) (main (F := F))) (s₀ m ρ) (fun r =>
    Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (Pipeline.RDat.FramePost.arr_in h.1 c 0 rfl).trans ((A_eq m c 0).trans (V_main_arg0 m c)),
    ((h.1 c).2 main_arg1 (Pipeline.mem_restRefs_of main_arg1 (by decide) (by decide))).trans (V_main_arg1 m c),
    (Pipeline.RDat.FramePost.arr_in h.1 c 2 rfl).trans ((A_eq m c 2).trans (V_main_arg2 m c)),
    (Pipeline.RDat.FramePost.arr_in h.1 c 3 rfl).trans ((A_eq m c 3).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    (Pipeline.RDat.FramePost.arr_in h.1 c 6 rfl).trans ((A_eq m c 6).trans (V_main_arg6 m c))⟩, h.2⟩) (run_main m ρ)

end Cert.Proof.Kernel

end
-- ==== Proof.Gather.lean ====
/- One kernel offset's gather: the rows a trip of either gathering loop writes, read at an index. Both loops compute the same
   block of 320 x 128 values (`gblock`) from one row of neighbour indices, the seven lane tiles of the scales and the ten
   groups of eight rows of packed codes; `gblock_apply` reads it. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Pointwise

@[expose] public section

set_option maxRecDepth 65536

noncomputable section

namespace Cert.Proof.KernelIdeal

open Cert.KernelIdeal Cert.KernelIdeal.Gen
open Idealize.ShloMosaic Idealize.ShloMosaic.TcCoe

/-! ## Selecting one of seven tiles by an index -/

/-- Entry `n` of a table of seven tiles of 128, and `z` when `n` is not below 896. -/
def gsel {α : Type} (n : BitVec 32) (v : Fin 7 → Fin 128 → α) (z : α) : α :=
  if h : n.toNat < 896 then v ⟨n.toNat / 128, by omega⟩ ⟨n.toNat % 128, by omega⟩ else z

/-- Seven selections of a lane gather, one for each tile, the last one outermost. -/
def gchain {α : Type} (idx : IVec S8x128 32) (tab : Fin 7 → S8x128.Idx → α) (fill : S8x128.Idx → α) : S8x128.Idx → α :=
  let lo : IVec S8x128 32 := andi idx (broadcast S8x128 127#32)
  let hi : IVec S8x128 32 := shrsi idx (broadcast S8x128 7#32)
  let pos : IVec S8x128 32 := shapeCast S8x128 (shapeCast S8x128x1 (select (cmpi .slt lo (broadcast S8x128 0#32)) (addi lo (broadcast S8x128 128#32)) lo) shapeCasts_S8x128_S8x128x1) shapeCasts_S8x128x1_S8x128
  let sel (h : BitVec 32) (t acc : S8x128.Idx → α) : S8x128.Idx → α := select (cmpi .eq hi (broadcast S8x128 h)) (dynamicGather 1 t pos) acc
  sel 6#32 (tab 6) (sel 5#32 (tab 5) (sel 4#32 (tab 4) (sel 3#32 (tab 3) (sel 2#32 (tab 2) (sel 1#32 (tab 1) (sel 0#32 (tab 0) fill))))))

/-- The block of values of one kernel offset: the selected codes times the selected scales. -/
def gblock {F : FTy → Type} [FloatOps F] (row : Vec F S1x1x1x128 .i32) (sc : Fin 7 → Vec F S1x1x1x128 .f32)
    (tb : Fin 10 → Fin 7 → Vec F S1x1x8x128 .i32) : FVec F S320x128 .bf16 :=
  let idx : IVec S8x128 32 := broadcastTo S8x128 (shapeCast S1x128 (shapeCast S1x128 row shapeCasts_S1x1x1x128_S1x128) shapeCasts_S1x128_S1x128) broadcasts_S1x128_S8x128
  let s8 : FVec F S8x128 .f32 := gchain idx (fun h => broadcastTo S8x128 (shapeCast S1x128 (shapeCast S1x128 (sc h) shapeCasts_S1x1x1x128_S1x128) shapeCasts_S1x128_S1x128) broadcasts_S1x128_S8x128) (broadcast S8x128 (Scalar.ofBits .f32 0x00000000#32))
  let s : FVec F S1x128 .bf16 := truncf .bf16 (extractStridedSlice S1x128 ![0, 0] s8 slices_S8x128_o0_0_S1x128) bitsLt_bf16_f32
  let w (r : Fin 10) : IVec S8x128 32 := gchain idx (fun h => shapeCast S8x128 (tb r h) shapeCasts_S1x1x8x128_S8x128) (broadcast S8x128 0#32)
  let ws : IVec S80x128 32 := concatenate S80x128 0 [⟨S8x128, w 0⟩, ⟨S8x128, w 1⟩, ⟨S8x128, w 2⟩, ⟨S8x128, w 3⟩, ⟨S8x128, w 4⟩, ⟨S8x128, w 5⟩, ⟨S8x128, w 6⟩, ⟨S8x128, w 7⟩, ⟨S8x128, w 8⟩, ⟨S8x128, w 9⟩] concatenates_S8x128_S8x128_S8x128_S8x128_S8x128_S8x128_S8x128_S8x128_S8x128_S8x128_S80x128_d0
  mulf (extf .bf16 (bitcastToFloat .fp8e4m3 (bitcast S320x128 8 ws bitcasts_S80x128_w32_S320x128_w8)) bitsLt_fp8e4m3_bf16)
    (broadcastTo S320x128 (shapeCast S1x128 s shapeCasts_S1x128_S1x128) broadcasts_S1x128_S320x128)

/-! ## The loop that fills the left half of the columns -/

/-- The offsets of the loads of the scales. -/
def scOff3 : Fin 7 → Fin k0_t2_loop.trips → Fin 4 → ℕ :=
  ![k0_off4, k0_off5, k0_off6, k0_off7, k0_off8, k0_off9, k0_off10]

/-- The offsets of the loads of the packed codes. -/
def tbOff3 : Fin 10 → Fin 7 → Fin k0_t2_loop.trips → Fin 4 → ℕ :=
  ![![k0_off11, k0_off12, k0_off13, k0_off14, k0_off15, k0_off16, k0_off17],
    ![k0_off18, k0_off19, k0_off20, k0_off21, k0_off22, k0_off23, k0_off24],
    ![k0_off25, k0_off26, k0_off27, k0_off28, k0_off29, k0_off30, k0_off31],
    ![k0_off32, k0_off33, k0_off34, k0_off35, k0_off36, k0_off37, k0_off38],
    ![k0_off39, k0_off40, k0_off41, k0_off42, k0_off43, k0_off44, k0_off45],
    ![k0_off46, k0_off47, k0_off48, k0_off49, k0_off50, k0_off51, k0_off52],
    ![k0_off53, k0_off54, k0_off55, k0_off56, k0_off57, k0_off58, k0_off59],
    ![k0_off60, k0_off61, k0_off62, k0_off63, k0_off64, k0_off65, k0_off66],
    ![k0_off67, k0_off68, k0_off69, k0_off70, k0_off71, k0_off72, k0_off73],
    ![k0_off74, k0_off75, k0_off76, k0_off77, k0_off78, k0_off79, k0_off80]]

theorem scOff3_eq : ∀ (h : Fin 7) (t : Fin k0_t2_loop.trips), scOff3 h t = ![((2 * t.val) / 7), h.val, 0, 0] := by decide +kernel

theorem tbOff3_eq : ∀ (r : Fin 10) (h : Fin 7) (t : Fin k0_t2_loop.trips), tbOff3 r h t = ![((2 * t.val) / 7), h.val, 8 * r.val, 0] := by decide +kernel

theorem nbOff3_eq : ∀ (t : Fin k0_t2_loop.trips) (k : Fin k0_t3_loop.trips), k0_off3 t k = ![((2 * t.val) / 7), ((2 * t.val) % 7), k.val, 0] := by decide +kernel

theorem scOff3_inb (h : Fin 7) (t : Fin k0_t2_loop.trips) : ∀ a, scOff3 h t a + S1x1x1x128.size a ≤ S2x7x1x128.size a := by
  rw [scOff3_eq]; have ht : t.val < 7 := t.isLt
  intro a; match a with
  | ⟨0, _⟩ => show ((2 * t.val) / 7) + 1 ≤ 2; omega
  | ⟨1, _⟩ => show h.val + 1 ≤ 7; omega
  | ⟨2, _⟩ => show 0 + 1 ≤ 1; omega
  | ⟨3, _⟩ => show 0 + 128 ≤ 128; omega

theorem tbOff3_inb (r : Fin 10) (h : Fin 7) (t : Fin k0_t2_loop.trips) : ∀ a, tbOff3 r h t a + S1x1x8x128.size a ≤ S2x7x80x128.size a := by
  rw [tbOff3_eq]; have ht : t.val < 7 := t.isLt
  intro a; match a with
  | ⟨0, _⟩ => show ((2 * t.val) / 7) + 1 ≤ 2; omega
  | ⟨1, _⟩ => show h.val + 1 ≤ 7; omega
  | ⟨2, _⟩ => show 8 * r.val + 8 ≤ 80; omega
  | ⟨3, _⟩ => show 0 + 128 ≤ 128; omega

/-- The trip's block is `gblock` of what it loads. -/
theorem block3_eq {F : FTy → Type} [FloatOps F]
    (arg1 : Memref sig .tc .vmem S2x7x1x128 .f32) (arg9 : Memref sig .tc .vmem S2x7x80x128 .i32) (arg10 : Memref sig .tc .vmem S2x7x27x128 .i32)
    (t : Fin k0_t2_loop.trips) (X1 : BufTy.Contents (Elt F) arg1.view.ty) (X9 : BufTy.Contents (Elt F) arg9.view.ty) (X10 : BufTy.Contents (Elt F) arg10.view.ty) (k : Fin k0_t3_loop.trips) :
    trip_k0_t3.sl.r_11 arg1 arg9 arg10 t X1 X9 X10 k
      = gblock (F := F) (arg10.view.readAt (Elt F) (Rect.unit (s := S2x7x27x128) (k0_off3 t k) S1x1x1x128.size (k0_off3_inb t k)).toLoadRect X10)
          (fun h => arg1.view.readAt (Elt F) (Rect.unit (s := S2x7x1x128) (scOff3 h t) S1x1x1x128.size (scOff3_inb h t)).toLoadRect X1)
          (fun r h => arg9.view.readAt (Elt F) (Rect.unit (s := S2x7x80x128) (tbOff3 r h t) S1x1x8x128.size (tbOff3_inb r h t)).toLoadRect X9) := rfl

/-! ## The loop that fills the right half of the columns -/

/-- The offsets of the loads of the scales. -/
def scOff4 : Fin 7 → Fin k0_t2_loop.trips → Fin 4 → ℕ :=
  ![k0_off84, k0_off85, k0_off86, k0_off87, k0_off88, k0_off89, k0_off90]

/-- The offsets of the loads of the packed codes. -/
def tbOff4 : Fin 10 → Fin 7 → Fin k0_t2_loop.trips → Fin 4 → ℕ :=
  ![![k0_off91, k0_off92, k0_off93, k0_off94, k0_off95, k0_off96, k0_off97],
    ![k0_off98, k0_off99, k0_off100, k0_off101, k0_off102, k0_off103, k0_off104],
    ![k0_off105, k0_off106, k0_off107, k0_off108, k0_off109, k0_off110, k0_off111],
    ![k0_off112, k0_off113, k0_off114, k0_off115, k0_off116, k0_off117, k0_off118],
    ![k0_off119, k0_off120, k0_off121, k0_off122, k0_off123, k0_off124, k0_off125],
    ![k0_off126, k0_off127, k0_off128, k0_off129, k0_off130, k0_off131, k0_off132],
    ![k0_off133, k0_off134, k0_off135, k0_off136, k0_off137, k0_off138, k0_off139],
    ![k0_off140, k0_off141, k0_off142, k0_off143, k0_off144, k0_off145, k0_off146],
    ![k0_off147, k0_off148, k0_off149, k0_off150, k0_off151, k0_off152, k0_off153],
    ![k0_off154, k0_off155, k0_off156, k0_off157, k0_off158, k0_off159, k0_off160]]

theorem scOff4_eq : ∀ (h : Fin 7) (t : Fin k0_t2_loop.trips), scOff4 h t = ![((2 * t.val + 1) / 7), h.val, 0, 0] := by decide +kernel

theorem tbOff4_eq : ∀ (r : Fin 10) (h : Fin 7) (t : Fin k0_t2_loop.trips), tbOff4 r h t = ![((2 * t.val + 1) / 7), h.val, 8 * r.val, 0] := by decide +kernel

theorem nbOff4_eq : ∀ (t : Fin k0_t2_loop.trips) (k : Fin k0_t4_loop.trips), k0_off83 t k = ![((2 * t.val + 1) / 7), ((2 * t.val + 1) % 7), k.val, 0] := by decide +kernel

theorem scOff4_inb (h : Fin 7) (t : Fin k0_t2_loop.trips) : ∀ a, scOff4 h t a + S1x1x1x128.size a ≤ S2x7x1x128.size a := by
  rw [scOff4_eq]; have ht : t.val < 7 := t.isLt
  intro a; match a with
  | ⟨0, _⟩ => show ((2 * t.val + 1) / 7) + 1 ≤ 2; omega
  | ⟨1, _⟩ => show h.val + 1 ≤ 7; omega
  | ⟨2, _⟩ => show 0 + 1 ≤ 1; omega
  | ⟨3, _⟩ => show 0 + 128 ≤ 128; omega

theorem tbOff4_inb (r : Fin 10) (h : Fin 7) (t : Fin k0_t2_loop.trips) : ∀ a, tbOff4 r h t a + S1x1x8x128.size a ≤ S2x7x80x128.size a := by
  rw [tbOff4_eq]; have ht : t.val < 7 := t.isLt
  intro a; match a with
  | ⟨0, _⟩ => show ((2 * t.val + 1) / 7) + 1 ≤ 2; omega
  | ⟨1, _⟩ => show h.val + 1 ≤ 7; omega
  | ⟨2, _⟩ => show 8 * r.val + 8 ≤ 80; omega
  | ⟨3, _⟩ => show 0 + 128 ≤ 128; omega

/-- The trip's block is `gblock` of what it loads. -/
theorem block4_eq {F : FTy → Type} [FloatOps F]
    (arg1 : Memref sig .tc .vmem S2x7x1x128 .f32) (arg9 : Memref sig .tc .vmem S2x7x80x128 .i32) (arg10 : Memref sig .tc .vmem S2x7x27x128 .i32)
    (t : Fin k0_t2_loop.trips) (X1 : BufTy.Contents (Elt F) arg1.view.ty) (X9 : BufTy.Contents (Elt F) arg9.view.ty) (X10 : BufTy.Contents (Elt F) arg10.view.ty) (k : Fin k0_t4_loop.trips) :
    trip_k0_t4.sl.r_11 arg1 arg9 arg10 t X1 X9 X10 k
      = gblock (F := F) (arg10.view.readAt (Elt F) (Rect.unit (s := S2x7x27x128) (k0_off83 t k) S1x1x1x128.size (k0_off83_inb t k)).toLoadRect X10)
          (fun h => arg1.view.readAt (Elt F) (Rect.unit (s := S2x7x1x128) (scOff4 h t) S1x1x1x128.size (scOff4_inb h t)).toLoadRect X1)
          (fun r h => arg9.view.readAt (Elt F) (Rect.unit (s := S2x7x80x128) (tbOff4 r h t) S1x1x8x128.size (tbOff4_inb r h t)).toLoadRect X9) := rfl

end Cert.Proof.KernelIdeal

end
-- ==== Proof.GatherValue.lean ====
/- The gather on words: a neighbour's word split into its tile and its lane, the chain of selections over the seven tiles read at
   an index, and a 32-bit word read as its four bytes. -/
module

public import proofs.«01_k».proof.Proof.Gather
public import Idealize.ShloMosaic.Lib.BitcastFour

@[expose] public section

set_option maxRecDepth 65536

noncomputable section

namespace Cert.Proof.KernelIdeal

open Cert.KernelIdeal Cert.KernelIdeal.Gen
open Idealize.ShloMosaic Idealize.ShloMosaic.TcCoe

theorem and127_toNat (n : BitVec 32) : (IntOp.andi n 127#32).toNat = n.toNat % 128 := by
  show (n &&& 127#32).toNat = _
  rw [BitVec.toNat_and]
  exact Nat.and_two_pow_sub_one_eq_mod n.toNat 7

/-- The lane a word selects: its low seven bits. -/
theorem lane_toNat (n : BitVec 32) :
    (Scalar.select (IntOp.cmpi .slt (IntOp.andi n 127#32) 0#32) (IntOp.addi (IntOp.andi n 127#32) 128#32) (IntOp.andi n 127#32)).toNat % 128
      = n.toNat % 128 := by
  have h := and127_toNat n
  have hs : IntOp.cmpi .slt (IntOp.andi n 127#32) 0#32 = 0#1 := by
    show BitVec.ofBool ((IntOp.andi n 127#32).slt 0#32) = 0#1
    have : (IntOp.andi n 127#32).slt 0#32 = false := by
      rw [BitVec.slt_eq_decide, decide_eq_false_iff_not, BitVec.toInt_eq_toNat_of_lt (by omega)]
      simp
    rw [this]; rfl
  rw [hs]
  show (IntOp.andi n 127#32).toNat % 128 = _
  rw [h]; omega

/-- Whether a word's upper bits name tile `h`. -/
theorem tile_iff (n : BitVec 32) (h : ℕ) (hh : h < 7) :
    IntOp.cmpi .eq (IntOp.shrsi ArithUnit.vector n 7#32) (BitVec.ofNat 32 h) = 1#1 ↔ n.toNat / 128 = h := by
  have e : IntOp.shrsi ArithUnit.vector n 7#32 = n.sshiftRight 7 := by
    show (if (7#32 : BitVec 32).toNat < 32 then n.sshiftRight' 7#32 else _) = _
    rfl
  rw [e]
  show BitVec.ofBool (n.sshiftRight 7 == BitVec.ofNat 32 h) = 1#1 ↔ _
  have h1 : (n.sshiftRight 7).toInt = n.toInt / 128 := by
    rw [BitVec.toInt_sshiftRight, Int.shiftRight_eq_div_pow]; rfl
  have h2 : (BitVec.ofNat 32 h).toInt = h := by
    rw [BitVec.toInt_eq_toNat_of_lt (by rw [BitVec.toNat_ofNat]; omega), BitVec.toNat_ofNat]; omega
  have h3 : (n.sshiftRight 7 == BitVec.ofNat 32 h) = decide (n.toInt / 128 = h) := by
    rw [Bool.eq_iff_iff, beq_iff_eq, decide_eq_true_iff, ← BitVec.toInt_inj, h1, h2]
  rw [h3]
  have hn := n.isLt
  have h4 : n.toInt / 128 = h ↔ n.toNat / 128 = h := by
    rw [BitVec.toInt_eq_toNat_cond]
    split <;> omega
  rw [← h4]
  by_cases hc : n.toInt / 128 = h <;> simp [hc]

/-- One selection of the chain. -/
theorem sel_tile {α : Type} (n : BitVec 32) (h : ℕ) (hh : h < 7) (a b : α) :
    Scalar.select (IntOp.cmpi .eq (IntOp.shrsi ArithUnit.vector n 7#32) (BitVec.ofNat 32 h)) a b
      = if n.toNat / 128 = h then a else b := by
  show (if _ = 1#1 then a else b) = _
  simp only [tile_iff n h hh]

theorem gchain_apply {α : Type} (idx : IVec S8x128 32) (tab : Fin 7 → S8x128.Idx → α) (fill : S8x128.Idx → α) (i : Fin 8) (l : Fin 128) :
    gchain idx tab fill (ix2 i l) = gsel (idx (ix2 i l)) (fun h l' => tab h (ix2 i l')) (fill (ix2 i l)) := by
  pointwise [gchain]
  simp only [lane_toNat]
  have key : ∀ q : Fin 7, (idx (ix2 i l)).toNat / 128 = q.val → ∀ a : Fin 128,
      (if (idx (ix2 i l)).toNat / 128 = 6 then tab 6 (ix2 i a) else if (idx (ix2 i l)).toNat / 128 = 5 then tab 5 (ix2 i a)
        else if (idx (ix2 i l)).toNat / 128 = 4 then tab 4 (ix2 i a) else if (idx (ix2 i l)).toNat / 128 = 3 then tab 3 (ix2 i a)
        else if (idx (ix2 i l)).toNat / 128 = 2 then tab 2 (ix2 i a) else if (idx (ix2 i l)).toNat / 128 = 1 then tab 1 (ix2 i a)
        else if (idx (ix2 i l)).toNat / 128 = 0 then tab 0 (ix2 i a) else fill (ix2 i l)) = tab q (ix2 i a) := by
    intro q hq a
    rw [hq]
    fin_cases q <;> rfl
  rw [sel_tile _ 6 (by omega), sel_tile _ 5 (by omega), sel_tile _ 4 (by omega), sel_tile _ 3 (by omega), sel_tile _ 2 (by omega),
    sel_tile _ 1 (by omega), sel_tile _ 0 (by omega)]
  unfold gsel
  by_cases h : (idx (ix2 i l)).toNat < 896
  · rw [dif_pos h]
    exact key ⟨(idx (ix2 i l)).toNat / 128, by omega⟩ rfl _
  · rw [dif_neg h]
    rw [if_neg (by omega), if_neg (by omega), if_neg (by omega), if_neg (by omega), if_neg (by omega), if_neg (by omega), if_neg (by omega)]

/-- A word's four bytes are its four rows. -/
theorem bitcast_32_8_ix2 {r R n : Nat} (x : (⟨2, ![r, n]⟩ : Shape).Idx → BitVec 32)
    (h : (⟨2, ![r, n]⟩ : Shape).Bitcasts 32 ⟨2, ![R, n]⟩ 8) (d : Fin R) (l : Fin n) (p : Fin r) (hp : p.val = d.val / 4) :
    bitcast ⟨2, ![R, n]⟩ 8 x h (ix2 d l) = (x (ix2 p l)).extractLsb' (8 * (d.val % 4)) 8 := by
  refine BitVec.eq_of_getLsbD_eq fun q hq => ?_
  rw [bitcast_getLsbD x h _ q hq (by omega), BitVec.getLsbD_extractLsb']
  have hr : (⟨2, ![R, n]⟩ : Shape).row (ix2 d l) = d.val := rfl
  have e : (d.val * 8 + q) % 32 = 8 * (d.val % 4) + q := by omega
  simp only [hq, decide_true, Bool.true_and, hr, e]
  congr 2
  funext c
  match c with
  | ⟨0, _⟩ => exact Fin.ext ((h.srcIdx_row _ _ _ ⟨0, Nat.zero_lt_two⟩ rfl).trans (by show (d.val * 8 + q) / 32 = p.val; omega))
  | ⟨1, _⟩ => exact Fin.ext (h.srcIdx_other _ _ _ ⟨1, Nat.one_lt_two⟩ (by show ¬ 1 + 2 = 2; omega))

/-- Ten groups of eight rows, one after the other. -/
theorem concat10_apply {α : Type} (w : Fin 10 → S8x128.Idx → α)
    (hc : Shape.Concatenates [S8x128, S8x128, S8x128, S8x128, S8x128, S8x128, S8x128, S8x128, S8x128, S8x128] S80x128 0) (R : Fin 80) (l : Fin 128) :
    concatenate S80x128 0 [⟨S8x128, w 0⟩, ⟨S8x128, w 1⟩, ⟨S8x128, w 2⟩, ⟨S8x128, w 3⟩, ⟨S8x128, w 4⟩, ⟨S8x128, w 5⟩, ⟨S8x128, w 6⟩, ⟨S8x128, w 7⟩, ⟨S8x128, w 8⟩, ⟨S8x128, w 9⟩] hc (ix2 R l)
      = w ⟨R.val / 8, by omega⟩ (ix2 ⟨R.val % 8, by omega⟩ l) := by
  pointwise
  have hw : ∀ (a b : Fin 10) (x y : Fin 8), a.val = b.val → x.val = y.val → w a (ix2 x l) = w b (ix2 y l) := by
    intro a b x y hab hxy
    rw [Fin.ext hab, Fin.ext hxy]
  by_cases h0 : R.val < 8
  · rw [dif_pos h0]; exact hw _ _ _ _ (by show 0 = R.val / 8; omega) (by show R.val = R.val % 8; omega)
  rw [dif_neg h0]
  by_cases h1 : R.val - 8 < 8
  · rw [dif_pos h1]; exact hw _ _ _ _ (by show 1 = R.val / 8; omega) (by show R.val - 8 = R.val % 8; omega)
  rw [dif_neg h1]
  by_cases h2 : R.val - 8 - 8 < 8
  · rw [dif_pos h2]; exact hw _ _ _ _ (by show 2 = R.val / 8; omega) (by show R.val - 8 - 8 = R.val % 8; omega)
  rw [dif_neg h2]
  by_cases h3 : R.val - 8 - 8 - 8 < 8
  · rw [dif_pos h3]; exact hw _ _ _ _ (by show 3 = R.val / 8; omega) (by show R.val - 8 - 8 - 8 = R.val % 8; omega)
  rw [dif_neg h3]
  by_cases h4 : R.val - 8 - 8 - 8 - 8 < 8
  · rw [dif_pos h4]; exact hw _ _ _ _ (by show 4 = R.val / 8; omega) (by show R.val - 8 - 8 - 8 - 8 = R.val % 8; omega)
  rw [dif_neg h4]
  by_cases h5 : R.val - 8 - 8 - 8 - 8 - 8 < 8
  · rw [dif_pos h5]; exact hw _ _ _ _ (by show 5 = R.val / 8; omega) (by show R.val - 8 - 8 - 8 - 8 - 8 = R.val % 8; omega)
  rw [dif_neg h5]
  by_cases h6 : R.val - 8 - 8 - 8 - 8 - 8 - 8 < 8
  · rw [dif_pos h6]; exact hw _ _ _ _ (by show 6 = R.val / 8; omega) (by show R.val - 8 - 8 - 8 - 8 - 8 - 8 = R.val % 8; omega)
  rw [dif_neg h6]
  by_cases h7 : R.val - 8 - 8 - 8 - 8 - 8 - 8 - 8 < 8
  · rw [dif_pos h7]; exact hw _ _ _ _ (by show 7 = R.val / 8; omega) (by show R.val - 8 - 8 - 8 - 8 - 8 - 8 - 8 = R.val % 8; omega)
  rw [dif_neg h7]
  by_cases h8 : R.val - 8 - 8 - 8 - 8 - 8 - 8 - 8 - 8 < 8
  · rw [dif_pos h8]; exact hw _ _ _ _ (by show 8 = R.val / 8; omega) (by show R.val - 8 - 8 - 8 - 8 - 8 - 8 - 8 - 8 = R.val % 8; omega)
  rw [dif_neg h8]
  exact hw _ _ _ _ (by show 9 = R.val / 8; omega) (by show R.val - 8 - 8 - 8 - 8 - 8 - 8 - 8 - 8 - 8 = R.val % 8; omega)

/-- The block at row `d`, column `l`: byte `d % 4` of the selected word of row `d / 4`, decoded, times the selected scale. -/
theorem gblock_apply (row : Vec Ideal S1x1x1x128 .i32) (sc : Fin 7 → Vec Ideal S1x1x1x128 .f32)
    (tb : Fin 10 → Fin 7 → Vec Ideal S1x1x8x128 .i32) (d : Fin 320) (l : Fin 128) :
    gblock row sc tb (ix2 d l)
      = Ideal.ofBits .fp8e4m3 (BitVec.extractLsb' (8 * (d.val % 4)) 8 (gsel (row (ix4 0 0 0 l))
          (fun h l' => tb ⟨d.val / 4 / 8, by omega⟩ h (ix4 0 0 ⟨d.val / 4 % 8, by omega⟩ l')) 0#32))
        * gsel (row (ix4 0 0 0 l)) (fun h l' => sc h (ix4 0 0 0 l')) 0 := by
  pointwise [gblock]
  rw [bitcast_32_8_ix2 _ _ d l ⟨d.val / 4, by omega⟩ rfl]
  rw [concat10_apply (fun r => gchain _ (fun h => shapeCast S8x128 (tb r h) shapeCasts_S1x1x8x128_S8x128) (broadcast S8x128 0#32))]
  rw [gchain_apply, gchain_apply]
  pointwise

end Cert.Proof.KernelIdeal
end
-- ==== Proof.Tile.lean ====
/- The gathered matrix of one trip. A trip of the tile loop fills the 8704 x 256 scratch matrix with the gathered rows of two
   tiles of 128 voxels: 256 rows for each of the 27 kernel offsets, then the remaining 64 rows of each offset, then the 64 rows of
   padding, which it leaves alone. `asm` is that matrix as a function of the scratch contents it is gathered from, and
   `asm_read` reads the matrix after the trip's two gathering loops. -/
module

public import proofs.«01_k».proof.Proof.GatherValue
public import Idealize.ShloMosaic.Lib.Writes

@[expose] public section

set_option maxRecDepth 65536

noncomputable section

namespace Cert.Proof.KernelIdeal

open Cert.KernelIdeal Cert.KernelIdeal.Gen
open Idealize.ShloMosaic Idealize.ShloMosaic.TcCoe

/-! ## Reading a unit rectangle at an index -/

theorem readAt4 {sig : RefSig} {κ : Kind} {sp : Space} {e : EltTy} {n0 n1 n2 n3 m0 m1 m2 m3 : ℕ} (m : Memref sig κ sp ⟨4, ![n0, n1, n2, n3]⟩ e)
    (off : Fin 4 → ℕ) (h : ∀ a, off a + (⟨4, ![m0, m1, m2, m3]⟩ : Shape).size a ≤ (⟨4, ![n0, n1, n2, n3]⟩ : Shape).size a)
    (X : BufTy.Contents (Elt Ideal) m.view.ty) (i0 : Fin m0) (i1 : Fin m1) (i2 : Fin m2) (i3 : Fin m3)
    (j0 : Fin n0) (j1 : Fin n1) (j2 : Fin n2) (j3 : Fin n3)
    (h0 : j0.val = off 0 + i0.val) (h1 : j1.val = off 1 + i1.val) (h2 : j2.val = off 2 + i2.val) (h3 : j3.val = off 3 + i3.val) :
    m.view.readAt (Elt Ideal) (Rect.unit (s := ⟨4, ![n0, n1, n2, n3]⟩) off (⟨4, ![m0, m1, m2, m3]⟩ : Shape).size h).toLoadRect X (ix4 i0 i1 i2 i3)
      = m.view.read (Elt Ideal) X (ix4 j0 j1 j2 j3) := by
  rw [View.readAt_apply]
  congr 1
  funext a
  apply Fin.ext
  match a with
  | ⟨0, _⟩ => show off 0 + 1 * i0.val = j0.val; omega
  | ⟨1, _⟩ => show off 1 + 1 * i1.val = j1.val; omega
  | ⟨2, _⟩ => show off 2 + 1 * i2.val = j2.val; omega
  | ⟨3, _⟩ => show off 3 + 1 * i3.val = j3.val; omega

theorem gsel_congr {α : Type} {n n' : BitVec 32} {v v' : Fin 7 → Fin 128 → α} {z : α} (hn : n = n') (hv : ∀ h l, v h l = v' h l) :
    gsel n v z = gsel n' v' z := by
  subst hn
  rw [show v = v' from funext fun h => funext fun l => hv h l]

/-! ## The gathered matrix -/

/-- The gathered value of channel `d` for kernel offset `k` at voxel `l` of tile `s` of batch `b`, from the scales `x1`, the packed
    codes `x9` and the neighbour indices `x10`. -/
def gk (x1 : Vec Ideal S2x7x1x128 .f32) (x9 : Vec Ideal S2x7x80x128 .i32) (x10 : Vec Ideal S2x7x27x128 .i32)
    (b : Fin 2) (s : Fin 7) (l : Fin 128) (k : Fin 27) (d : Fin 320) : EReal :=
  Ideal.ofBits .fp8e4m3 (BitVec.extractLsb' (8 * (d.val % 4)) 8
      (gsel (x10 (ix4 b s k l)) (fun h l' => x9 (ix4 b h ⟨d.val / 4, by omega⟩ l')) 0#32))
    * gsel (x10 (ix4 b s k l)) (fun h l' => x1 (ix4 b h 0 l')) 0

/-- The batch of column `c` of trip `t`'s matrix, -/
def tb (t : Fin 7) (j : ℕ) (hj : j < 2) : Fin 2 := ⟨(2 * t.val + j) / 7, by omega⟩
/-- and its tile. -/
def ts (t : Fin 7) (j : ℕ) : Fin 7 := ⟨(2 * t.val + j) % 7, by omega⟩

/-- Row `p`, column `l` of the gathered matrix of tile `s` of batch `b`; zero in the rows of padding. -/
def asm (x1 : Vec Ideal S2x7x1x128 .f32) (x9 : Vec Ideal S2x7x80x128 .i32) (x10 : Vec Ideal S2x7x27x128 .i32)
    (b : Fin 2) (s : Fin 7) (p : Fin 8704) (l : Fin 128) : EReal :=
  if h : p.val < 6912 then gk x1 x9 x10 b s l ⟨p.val / 256, by omega⟩ ⟨p.val % 256, by omega⟩
  else if h' : p.val < 8640 then gk x1 x9 x10 b s l ⟨(p.val - 6912) / 64, by omega⟩ ⟨256 + (p.val - 6912) % 64, by omega⟩
  else 0

theorem gk_congr (x1 : Vec Ideal S2x7x1x128 .f32) (x9 : Vec Ideal S2x7x80x128 .i32) (x10 : Vec Ideal S2x7x27x128 .i32)
    (b : Fin 2) (s : Fin 7) {l l' : Fin 128} {k k' : Fin 27} {d d' : Fin 320} (hl : l.val = l'.val) (hk : k.val = k'.val) (hd : d.val = d'.val) :
    gk x1 x9 x10 b s l k d = gk x1 x9 x10 b s l' k' d' := by
  rw [Fin.ext hl, Fin.ext hk, Fin.ext hd]

/-- Trip `t`'s matrix: its two tiles side by side. -/
def asm2 (x1 : Vec Ideal S2x7x1x128 .f32) (x9 : Vec Ideal S2x7x80x128 .i32) (x10 : Vec Ideal S2x7x27x128 .i32) (t : Fin 7) : Vec Ideal S8704x256 .bf16 :=
  fun y => asm x1 x9 x10 (tb t ((y 1).val / 128) (by have : (y 1).val < 256 := (y 1).isLt; omega)) (ts t ((y 1).val / 128)) (y 0) ⟨(y 1).val % 128, by omega⟩

theorem asm2_big (x1 : Vec Ideal S2x7x1x128 .f32) (x9 : Vec Ideal S2x7x80x128 .i32) (x10 : Vec Ideal S2x7x27x128 .i32) (t : Fin 7)
    (j : ℕ) (hj : j < 2) (k : Fin 27) (d : Fin 256) (l : Fin 128) (y : S8704x256.Idx) (h0 : (y 0).val = 256 * k.val + d.val) (h1 : (y 1).val = 128 * j + l.val) :
    asm2 x1 x9 x10 t y = gk x1 x9 x10 (tb t j hj) (ts t j) l k ⟨d.val, by omega⟩ := by
  have e : (y 1).val / 128 = j := by omega
  have hp : (y 0).val < 6912 := by omega
  unfold asm2 asm
  simp only [e]
  rw [dif_pos hp]
  exact gk_congr _ _ _ _ _ (by show (y 1).val % 128 = l.val; omega) (by show (y 0).val / 256 = k.val; omega) (by show (y 0).val % 256 = d.val; omega)

theorem asm2_small (x1 : Vec Ideal S2x7x1x128 .f32) (x9 : Vec Ideal S2x7x80x128 .i32) (x10 : Vec Ideal S2x7x27x128 .i32) (t : Fin 7)
    (j : ℕ) (hj : j < 2) (k : Fin 27) (d : Fin 64) (l : Fin 128) (y : S8704x256.Idx) (h0 : (y 0).val = 6912 + 64 * k.val + d.val) (h1 : (y 1).val = 128 * j + l.val) :
    asm2 x1 x9 x10 t y = gk x1 x9 x10 (tb t j hj) (ts t j) l k ⟨256 + d.val, by omega⟩ := by
  have e : (y 1).val / 128 = j := by omega
  have hp : ¬ (y 0).val < 6912 := by omega
  have hp' : (y 0).val < 8640 := by omega
  unfold asm2 asm
  simp only [e]
  rw [dif_neg hp, dif_pos hp']
  exact gk_congr _ _ _ _ _ (by show (y 1).val % 128 = l.val; omega) (by show ((y 0).val - 6912) / 64 = k.val; omega) (by show 256 + ((y 0).val - 6912) % 64 = 256 + d.val; omega)

theorem asm2_pad (x1 : Vec Ideal S2x7x1x128 .f32) (x9 : Vec Ideal S2x7x80x128 .i32) (x10 : Vec Ideal S2x7x27x128 .i32) (t : Fin 7)
    (y : S8704x256.Idx) (h0 : 8640 ≤ (y 0).val) : asm2 x1 x9 x10 t y = 0 := by
  unfold asm2 asm
  rw [dif_neg (by omega), dif_neg (by omega)]

/-- Pieces that all hold `G` leave `G` wherever one of them lies, or the place held `G` before. -/
theorem read_writes_of_pieces {sig : RefSig} {κ : Kind} {sp : Space} {s : Shape} {e : EltTy} (v : View sig κ sp s e) (f : BufTy.Contents (Elt Ideal) v.ty)
    (G : s.Idx → Elt Ideal e) (L : List (View.Piece (Elt Ideal) s e)) (hG : ∀ p ∈ L, ∀ x, p.2 x = G (p.1.emb x)) (y : s.Idx)
    (hy : (∃ p ∈ L, y ∈ p.1.set) ∨ v.read (Elt Ideal) f y = G y) : v.read (Elt Ideal) (v.writes (Elt Ideal) f L) y = G y := by
  by_cases h : ∃ p ∈ L, y ∈ p.1.set
  · exact View.read_writes_apply_of_pieces v f G L hG y h
  · rw [View.read_writes_apply_of_forall_not_mem v f y L (fun p hp hm => h ⟨p, hp, hm⟩)]
    exact hy.resolve_left h

section
variable (c : Dev nD)
  (arg0 : Memref sig .tc .vmem S2x896x320 .i8) (harg0 : arg0.IsWhole)
  (arg1 : Memref sig .tc .vmem S2x7x1x128 .f32) (harg1 : arg1.IsWhole)
  (arg2 : Memref sig .tc .vmem S2x896x27 .i32) (harg2 : arg2.IsWhole)
  (arg3 : Memref sig .tc .vmem S27x320x384 .fp8e4m3) (harg3 : arg3.IsWhole)
  (arg4 : Memref sig .tc .vmem S1x384 .f32) (harg4 : arg4.IsWhole)
  (arg5 : Memref sig .tc .vmem S1x384 .f32) (harg5 : arg5.IsWhole)
  (arg6 : Memref sig .tc .vmem S2x896x384 .bf16) (harg6 : arg6.IsWhole)
  (arg7 : Memref sig .tc .vmem S2x896x384 .fp8e4m3) (harg7 : arg7.IsWhole)
  (arg8 : Memref sig .tc .vmem S2x7x1x128 .f32) (harg8 : arg8.IsWhole)
  (arg9 : Memref sig .tc .vmem S2x7x80x128 .i32) (harg9 : arg9.IsWhole)
  (arg10 : Memref sig .tc .vmem S2x7x27x128 .i32) (harg10 : arg10.IsWhole)
  (arg11 : Memref sig .tc .vmem S384x8704 .bf16) (harg11 : arg11.IsWhole)
  (arg12 : Memref sig .tc .vmem S8704x256 .bf16) (harg12 : arg12.IsWhole)
  (arg13 : Memref sig .tc .vmem S384x256 .f32) (harg13 : arg13.IsWhole)

theorem boff3_eq : ∀ k : Fin k0_t3_loop.trips, k0_off81 k = ![256 * k.val, 0] := by decide +kernel
theorem soff3_eq : ∀ k : Fin k0_t3_loop.trips, k0_off82 k = ![6912 + 64 * k.val, 0] := by decide +kernel

/-- The block a trip of the loop computes, at an index. -/
theorem block3_apply (t : Fin k0_t2_loop.trips) (X1 : BufTy.Contents (Elt Ideal) arg1.view.ty) (X9 : BufTy.Contents (Elt Ideal) arg9.view.ty)
    (X10 : BufTy.Contents (Elt Ideal) arg10.view.ty) (k : Fin k0_t3_loop.trips) (d : Fin 320) (l : Fin 128) :
    trip_k0_t3.sl.r_11 arg1 arg9 arg10 t X1 X9 X10 k (ix2 d l)
      = gk (arg1.view.read (Elt Ideal) X1) (arg9.view.read (Elt Ideal) X9) (arg10.view.read (Elt Ideal) X10) (tb t 0 (by omega)) (ts t 0) l k d := by
  have hrow : arg10.view.readAt (Elt Ideal) (Rect.unit (s := S2x7x27x128) (k0_off3 t k) S1x1x1x128.size (k0_off3_inb t k)).toLoadRect X10 (ix4 0 0 0 l)
      = arg10.view.read (Elt Ideal) X10 (ix4 (tb t 0 (by omega)) (ts t 0) k l) := by
    apply readAt4 <;> rw [nbOff3_eq] <;> first | rfl | (show l.val = 0 + l.val; omega)
  rw [block3_eq, gblock_apply]
  unfold gk
  congr 1
  · congr 2
    refine gsel_congr hrow fun h l' => ?_
    apply readAt4 <;> rw [tbOff3_eq]
    · rfl
    · rfl
    · show d.val / 4 = 8 * (d.val / 4 / 8) + d.val / 4 % 8; omega
    · show l'.val = 0 + l'.val; omega
  · refine gsel_congr hrow fun h l' => ?_
    apply readAt4 <;> rw [scOff3_eq] <;> first | rfl | (show l'.val = 0 + l'.val; omega)

theorem trip3_pieces (c0 c1 v431 v433 : BitVec 32) (t : Fin k0_t2_loop.trips) (X1 : BufTy.Contents (Elt Ideal) arg1.view.ty) (X9 : BufTy.Contents (Elt Ideal) arg9.view.ty)
    (X10 : BufTy.Contents (Elt Ideal) arg10.view.ty) (k : Fin k0_t3_loop.trips) :
    ∀ p ∈ tripL_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 k, ∀ x,
      p.2 x = asm2 (arg1.view.read (Elt Ideal) X1) (arg9.view.read (Elt Ideal) X9) (arg10.view.read (Elt Ideal) X10) t (p.1.emb x) := by
  unfold tripL_k0_t3 trip_k0_t3
  simp only [List.mem_cons, List.not_mem_nil, or_false, forall_eq_or_imp, forall_eq]
  constructor
  · intro x
    obtain ⟨d, l, rfl⟩ : ∃ (d : Fin 64) (l : Fin 128), x = ix2 d l := ⟨x 0, x 1, by funext a; match a with | ⟨0, _⟩ => rfl | ⟨1, _⟩ => rfl⟩
    rw [asm2_small _ _ _ t 0 (by omega) k d l _ (by show k0_off82 k 0 + 1 * d.val = _; rw [soff3_eq]; show 6912 + 64 * k.val + 1 * d.val = _; omega)
      (by show k0_off82 k 1 + 1 * l.val = _; rw [soff3_eq]; show 0 + 1 * l.val = _; omega), ← block3_apply]
    show k0_pay189 _ _ = _
    pointwise [k0_pay189]
  · intro x
    obtain ⟨d, l, rfl⟩ : ∃ (d : Fin 256) (l : Fin 128), x = ix2 d l := ⟨x 0, x 1, by funext a; match a with | ⟨0, _⟩ => rfl | ⟨1, _⟩ => rfl⟩
    rw [asm2_big _ _ _ t 0 (by omega) k d l _ (by show k0_off81 k 0 + 1 * d.val = _; rw [boff3_eq]; show 256 * k.val + 1 * d.val = _; omega)
      (by show k0_off81 k 1 + 1 * l.val = _; rw [boff3_eq]; show 0 + 1 * l.val = _; omega), ← block3_apply]
    show shapeCast S256x128 (extractStridedSlice S256x128 ![0, 0] (trip_k0_t3.sl.r_11 arg1 arg9 arg10 t X1 X9 X10 k) slices_S320x128_o0_0_S256x128) shapeCasts_S256x128_S256x128 (ix2 d l) = _
    pointwise

theorem trip3_covers (c0 c1 v431 v433 : BitVec 32) (t : Fin k0_t2_loop.trips) (X1 : BufTy.Contents (Elt Ideal) arg1.view.ty) (X9 : BufTy.Contents (Elt Ideal) arg9.view.ty)
    (X10 : BufTy.Contents (Elt Ideal) arg10.view.ty) (k : Fin k0_t3_loop.trips) (y : S8704x256.Idx) (hc : (y 1).val / 128 = 0)
    (hr : (y 0).val / 256 = k.val ∨ 6912 ≤ (y 0).val ∧ ((y 0).val - 6912) / 64 = k.val) :
    ∃ p ∈ tripL_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 k, y ∈ p.1.set := by
  unfold tripL_k0_t3 trip_k0_t3
  simp only [List.mem_cons, List.not_mem_nil, or_false, exists_eq_or_imp, exists_eq_left]
  rcases hr with hr | ⟨h6, hr⟩
  · right
    refine (LoadRect.mem_set _).mpr fun a => ?_
    match a with
    | ⟨0, _⟩ => exact ⟨(y 0).val - 256 * k.val, by show (y 0).val - 256 * k.val < 256; omega, by show (y 0).val = k0_off81 k 0 + 1 * _; rw [boff3_eq]; show _ = 256 * k.val + 1 * _; omega⟩
    | ⟨1, _⟩ => exact ⟨(y 1).val - 0, by show (y 1).val - 0 < 128; omega, by show (y 1).val = k0_off81 k 1 + 1 * _; rw [boff3_eq]; show _ = 0 + 1 * _; omega⟩
  · left
    refine (LoadRect.mem_set _).mpr fun a => ?_
    match a with
    | ⟨0, _⟩ => exact ⟨(y 0).val - (6912 + 64 * k.val), by show (y 0).val - (6912 + 64 * k.val) < 64; omega, by show (y 0).val = k0_off82 k 0 + 1 * _; rw [soff3_eq]; show _ = 6912 + 64 * k.val + 1 * _; omega⟩
    | ⟨1, _⟩ => exact ⟨(y 1).val - 0, by show (y 1).val - 0 < 128; omega, by show (y 1).val = k0_off82 k 1 + 1 * _; rw [soff3_eq]; show _ = 0 + 1 * _; omega⟩

theorem loop3_pieces (c0 c1 v431 v433 : BitVec 32) (t : Fin k0_t2_loop.trips) (X1 : BufTy.Contents (Elt Ideal) arg1.view.ty) (X9 : BufTy.Contents (Elt Ideal) arg9.view.ty)
    (X10 : BufTy.Contents (Elt Ideal) arg10.view.ty) : ∀ n : ℕ, n ≤ k0_t3_loop.trips →
    ∀ p ∈ pb_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 n, ∀ x,
      p.2 x = asm2 (arg1.view.read (Elt Ideal) X1) (arg9.view.read (Elt Ideal) X9) (arg10.view.read (Elt Ideal) X10) t (p.1.emb x) := by
  intro n
  induction n with
  | zero => intro _ p hp; unfold pb_k0_t3 at hp; exact absurd hp List.not_mem_nil
  | succ n ih =>
    intro hn p hp
    have := pb_k0_t3_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 ⟨n, hn⟩
    rw [this] at hp
    rcases List.mem_append.mp hp with hp | hp
    · exact trip3_pieces c arg0 harg0 arg1 harg1 arg2 harg2 arg3 harg3 arg4 harg4 arg5 harg5 arg6 harg6 arg7 harg7 arg8 harg8 arg9 harg9 arg10 harg10 arg11 harg11 arg12 harg12 arg13 harg13 c0 c1 v431 v433 t X1 X9 X10 _ p hp
    · exact ih (by omega) p hp

theorem loop3_covers (c0 c1 v431 v433 : BitVec 32) (t : Fin k0_t2_loop.trips) (X1 : BufTy.Contents (Elt Ideal) arg1.view.ty) (X9 : BufTy.Contents (Elt Ideal) arg9.view.ty)
    (X10 : BufTy.Contents (Elt Ideal) arg10.view.ty) (y : S8704x256.Idx) (hc : (y 1).val / 128 = 0) : ∀ n : ℕ, n ≤ k0_t3_loop.trips →
    ((y 0).val / 256 < n ∨ 6912 ≤ (y 0).val ∧ ((y 0).val - 6912) / 64 < n) →
    ∃ p ∈ pb_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 n, y ∈ p.1.set := by
  intro n
  induction n with
  | zero => intro _ h; omega
  | succ n ih =>
    intro hn h
    have := pb_k0_t3_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 ⟨n, hn⟩
    rw [this]
    by_cases h' : (y 0).val / 256 < n ∨ 6912 ≤ (y 0).val ∧ ((y 0).val - 6912) / 64 < n
    · obtain ⟨p, hp, hy⟩ := ih (by omega) h'
      exact ⟨p, List.mem_append_right _ hp, hy⟩
    · obtain ⟨p, hp, hy⟩ := trip3_covers c arg0 harg0 arg1 harg1 arg2 harg2 arg3 harg3 arg4 harg4 arg5 harg5 arg6 harg6 arg7 harg7 arg8 harg8 arg9 harg9 arg10 harg10 arg11 harg11 arg12 harg12 arg13 harg13 c0 c1 v431 v433 t X1 X9 X10 ⟨n, hn⟩ y hc (by show (y 0).val / 256 = n ∨ 6912 ≤ (y 0).val ∧ ((y 0).val - 6912) / 64 = n; omega)
      exact ⟨p, List.mem_append_left _ hp, hy⟩

theorem loop3_below (c0 c1 v431 v433 : BitVec 32) (t : Fin k0_t2_loop.trips) (X1 : BufTy.Contents (Elt Ideal) arg1.view.ty) (X9 : BufTy.Contents (Elt Ideal) arg9.view.ty)
    (X10 : BufTy.Contents (Elt Ideal) arg10.view.ty) (y : S8704x256.Idx) (hy : 8640 ≤ (y 0).val) : ∀ n : ℕ, n ≤ k0_t3_loop.trips →
    ∀ p ∈ pb_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 n, y ∉ p.1.set := by
  intro n
  induction n with
  | zero => intro _ p hp; unfold pb_k0_t3 at hp; exact absurd hp List.not_mem_nil
  | succ n ih =>
    intro hn p hp
    have hn' : n < 27 := hn
    have := pb_k0_t3_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 ⟨n, hn⟩
    rw [this] at hp
    rcases List.mem_append.mp hp with hp | hp
    · unfold tripL_k0_t3 trip_k0_t3 at hp
      rcases List.mem_cons.mp hp with rfl | hp
      · exact Rect.not_mem_set_of_axis _ y 0 (6912 + 64 * n) 64 (by show k0_off82 ⟨n, hn⟩ 0 = _; rw [soff3_eq]; rfl) rfl rfl (by omega)
      · rw [List.mem_singleton.mp hp]
        exact Rect.not_mem_set_of_axis _ y 0 (256 * n) 256 (by show k0_off81 ⟨n, hn⟩ 0 = _; rw [boff3_eq]; rfl) rfl rfl (by omega)
    · exact ih (by omega) p hp

theorem boff4_eq : ∀ k : Fin k0_t4_loop.trips, k0_off161 k = ![256 * k.val, 128] := by decide +kernel
theorem soff4_eq : ∀ k : Fin k0_t4_loop.trips, k0_off162 k = ![6912 + 64 * k.val, 128] := by decide +kernel

/-- The block a trip of the loop computes, at an index. -/
theorem block4_apply (t : Fin k0_t2_loop.trips) (X1 : BufTy.Contents (Elt Ideal) arg1.view.ty) (X9 : BufTy.Contents (Elt Ideal) arg9.view.ty)
    (X10 : BufTy.Contents (Elt Ideal) arg10.view.ty) (k : Fin k0_t4_loop.trips) (d : Fin 320) (l : Fin 128) :
    trip_k0_t4.sl.r_11 arg1 arg9 arg10 t X1 X9 X10 k (ix2 d l)
      = gk (arg1.view.read (Elt Ideal) X1) (arg9.view.read (Elt Ideal) X9) (arg10.view.read (Elt Ideal) X10) (tb t 1 (by omega)) (ts t 1) l k d := by
  have hrow : arg10.view.readAt (Elt Ideal) (Rect.unit (s := S2x7x27x128) (k0_off83 t k) S1x1x1x128.size (k0_off83_inb t k)).toLoadRect X10 (ix4 0 0 0 l)
      = arg10.view.read (Elt Ideal) X10 (ix4 (tb t 1 (by omega)) (ts t 1) k l) := by
    apply readAt4 <;> rw [nbOff4_eq] <;> first | rfl | (show l.val = 0 + l.val; omega)
  rw [block4_eq, gblock_apply]
  unfold gk
  congr 1
  · congr 2
    refine gsel_congr hrow fun h l' => ?_
    apply readAt4 <;> rw [tbOff4_eq]
    · rfl
    · rfl
    · show d.val / 4 = 8 * (d.val / 4 / 8) + d.val / 4 % 8; omega
    · show l'.val = 0 + l'.val; omega
  · refine gsel_congr hrow fun h l' => ?_
    apply readAt4 <;> rw [scOff4_eq] <;> first | rfl | (show l'.val = 0 + l'.val; omega)

theorem trip4_pieces (b0 b1 b2 b3 b4 b5 b6 b7 : BitVec 32) (t : Fin k0_t2_loop.trips) (X1 : BufTy.Contents (Elt Ideal) arg1.view.ty) (X9 : BufTy.Contents (Elt Ideal) arg9.view.ty)
    (X10 : BufTy.Contents (Elt Ideal) arg10.view.ty) (k : Fin k0_t4_loop.trips) :
    ∀ p ∈ tripL_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 k, ∀ x,
      p.2 x = asm2 (arg1.view.read (Elt Ideal) X1) (arg9.view.read (Elt Ideal) X9) (arg10.view.read (Elt Ideal) X10) t (p.1.emb x) := by
  unfold tripL_k0_t4 trip_k0_t4
  simp only [List.mem_cons, List.not_mem_nil, or_false, forall_eq_or_imp, forall_eq]
  constructor
  · intro x
    obtain ⟨d, l, rfl⟩ : ∃ (d : Fin 64) (l : Fin 128), x = ix2 d l := ⟨x 0, x 1, by funext a; match a with | ⟨0, _⟩ => rfl | ⟨1, _⟩ => rfl⟩
    rw [asm2_small _ _ _ t 1 (by omega) k d l _ (by show k0_off162 k 0 + 1 * d.val = _; rw [soff4_eq]; show 6912 + 64 * k.val + 1 * d.val = _; omega)
      (by show k0_off162 k 1 + 1 * l.val = _; rw [soff4_eq]; show 128 + 1 * l.val = _; omega), ← block4_apply]
    show k0_pay191 _ _ = _
    pointwise [k0_pay191]
  · intro x
    obtain ⟨d, l, rfl⟩ : ∃ (d : Fin 256) (l : Fin 128), x = ix2 d l := ⟨x 0, x 1, by funext a; match a with | ⟨0, _⟩ => rfl | ⟨1, _⟩ => rfl⟩
    rw [asm2_big _ _ _ t 1 (by omega) k d l _ (by show k0_off161 k 0 + 1 * d.val = _; rw [boff4_eq]; show 256 * k.val + 1 * d.val = _; omega)
      (by show k0_off161 k 1 + 1 * l.val = _; rw [boff4_eq]; show 128 + 1 * l.val = _; omega), ← block4_apply]
    show shapeCast S256x128 (extractStridedSlice S256x128 ![0, 0] (trip_k0_t4.sl.r_11 arg1 arg9 arg10 t X1 X9 X10 k) slices_S320x128_o0_0_S256x128) shapeCasts_S256x128_S256x128 (ix2 d l) = _
    pointwise

theorem trip4_covers (b0 b1 b2 b3 b4 b5 b6 b7 : BitVec 32) (t : Fin k0_t2_loop.trips) (X1 : BufTy.Contents (Elt Ideal) arg1.view.ty) (X9 : BufTy.Contents (Elt Ideal) arg9.view.ty)
    (X10 : BufTy.Contents (Elt Ideal) arg10.view.ty) (k : Fin k0_t4_loop.trips) (y : S8704x256.Idx) (hc : (y 1).val / 128 = 1)
    (hr : (y 0).val / 256 = k.val ∨ 6912 ≤ (y 0).val ∧ ((y 0).val - 6912) / 64 = k.val) :
    ∃ p ∈ tripL_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 k, y ∈ p.1.set := by
  unfold tripL_k0_t4 trip_k0_t4
  simp only [List.mem_cons, List.not_mem_nil, or_false, exists_eq_or_imp, exists_eq_left]
  rcases hr with hr | ⟨h6, hr⟩
  · right
    refine (LoadRect.mem_set _).mpr fun a => ?_
    match a with
    | ⟨0, _⟩ => exact ⟨(y 0).val - 256 * k.val, by show (y 0).val - 256 * k.val < 256; omega, by show (y 0).val = k0_off161 k 0 + 1 * _; rw [boff4_eq]; show _ = 256 * k.val + 1 * _; omega⟩
    | ⟨1, _⟩ => exact ⟨(y 1).val - 128, by show (y 1).val - 128 < 128; omega, by show (y 1).val = k0_off161 k 1 + 1 * _; rw [boff4_eq]; show _ = 128 + 1 * _; omega⟩
  · left
    refine (LoadRect.mem_set _).mpr fun a => ?_
    match a with
    | ⟨0, _⟩ => exact ⟨(y 0).val - (6912 + 64 * k.val), by show (y 0).val - (6912 + 64 * k.val) < 64; omega, by show (y 0).val = k0_off162 k 0 + 1 * _; rw [soff4_eq]; show _ = 6912 + 64 * k.val + 1 * _; omega⟩
    | ⟨1, _⟩ => exact ⟨(y 1).val - 128, by show (y 1).val - 128 < 128; omega, by show (y 1).val = k0_off162 k 1 + 1 * _; rw [soff4_eq]; show _ = 128 + 1 * _; omega⟩

theorem loop4_pieces (b0 b1 b2 b3 b4 b5 b6 b7 : BitVec 32) (t : Fin k0_t2_loop.trips) (X1 : BufTy.Contents (Elt Ideal) arg1.view.ty) (X9 : BufTy.Contents (Elt Ideal) arg9.view.ty)
    (X10 : BufTy.Contents (Elt Ideal) arg10.view.ty) : ∀ n : ℕ, n ≤ k0_t4_loop.trips →
    ∀ p ∈ pb_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 n, ∀ x,
      p.2 x = asm2 (arg1.view.read (Elt Ideal) X1) (arg9.view.read (Elt Ideal) X9) (arg10.view.read (Elt Ideal) X10) t (p.1.emb x) := by
  intro n
  induction n with
  | zero => intro _ p hp; unfold pb_k0_t4 at hp; exact absurd hp List.not_mem_nil
  | succ n ih =>
    intro hn p hp
    have := pb_k0_t4_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 ⟨n, hn⟩
    rw [this] at hp
    rcases List.mem_append.mp hp with hp | hp
    · exact trip4_pieces c arg0 harg0 arg1 harg1 arg2 harg2 arg3 harg3 arg4 harg4 arg5 harg5 arg6 harg6 arg7 harg7 arg8 harg8 arg9 harg9 arg10 harg10 arg11 harg11 arg12 harg12 arg13 harg13 b0 b1 b2 b3 b4 b5 b6 b7 t X1 X9 X10 _ p hp
    · exact ih (by omega) p hp

theorem loop4_covers (b0 b1 b2 b3 b4 b5 b6 b7 : BitVec 32) (t : Fin k0_t2_loop.trips) (X1 : BufTy.Contents (Elt Ideal) arg1.view.ty) (X9 : BufTy.Contents (Elt Ideal) arg9.view.ty)
    (X10 : BufTy.Contents (Elt Ideal) arg10.view.ty) (y : S8704x256.Idx) (hc : (y 1).val / 128 = 1) : ∀ n : ℕ, n ≤ k0_t4_loop.trips →
    ((y 0).val / 256 < n ∨ 6912 ≤ (y 0).val ∧ ((y 0).val - 6912) / 64 < n) →
    ∃ p ∈ pb_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 n, y ∈ p.1.set := by
  intro n
  induction n with
  | zero => intro _ h; omega
  | succ n ih =>
    intro hn h
    have := pb_k0_t4_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 ⟨n, hn⟩
    rw [this]
    by_cases h' : (y 0).val / 256 < n ∨ 6912 ≤ (y 0).val ∧ ((y 0).val - 6912) / 64 < n
    · obtain ⟨p, hp, hy⟩ := ih (by omega) h'
      exact ⟨p, List.mem_append_right _ hp, hy⟩
    · obtain ⟨p, hp, hy⟩ := trip4_covers c arg0 harg0 arg1 harg1 arg2 harg2 arg3 harg3 arg4 harg4 arg5 harg5 arg6 harg6 arg7 harg7 arg8 harg8 arg9 harg9 arg10 harg10 arg11 harg11 arg12 harg12 arg13 harg13 b0 b1 b2 b3 b4 b5 b6 b7 t X1 X9 X10 ⟨n, hn⟩ y hc (by show (y 0).val / 256 = n ∨ 6912 ≤ (y 0).val ∧ ((y 0).val - 6912) / 64 = n; omega)
      exact ⟨p, List.mem_append_left _ hp, hy⟩

theorem loop4_below (b0 b1 b2 b3 b4 b5 b6 b7 : BitVec 32) (t : Fin k0_t2_loop.trips) (X1 : BufTy.Contents (Elt Ideal) arg1.view.ty) (X9 : BufTy.Contents (Elt Ideal) arg9.view.ty)
    (X10 : BufTy.Contents (Elt Ideal) arg10.view.ty) (y : S8704x256.Idx) (hy : 8640 ≤ (y 0).val) : ∀ n : ℕ, n ≤ k0_t4_loop.trips →
    ∀ p ∈ pb_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 n, y ∉ p.1.set := by
  intro n
  induction n with
  | zero => intro _ p hp; unfold pb_k0_t4 at hp; exact absurd hp List.not_mem_nil
  | succ n ih =>
    intro hn p hp
    have hn' : n < 27 := hn
    have := pb_k0_t4_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 ⟨n, hn⟩
    rw [this] at hp
    rcases List.mem_append.mp hp with hp | hp
    · unfold tripL_k0_t4 trip_k0_t4 at hp
      rcases List.mem_cons.mp hp with rfl | hp
      · exact Rect.not_mem_set_of_axis _ y 0 (6912 + 64 * n) 64 (by show k0_off162 ⟨n, hn⟩ 0 = _; rw [soff4_eq]; rfl) rfl rfl (by omega)
      · rw [List.mem_singleton.mp hp]
        exact Rect.not_mem_set_of_axis _ y 0 (256 * n) 256 (by show k0_off161 ⟨n, hn⟩ 0 = _; rw [boff4_eq]; rfl) rfl rfl (by omega)
    · exact ih (by omega) p hp

/-! ## The matrix after a trip's two loops -/

theorem asm_read (c0 c1 v431 v433 b0 b1 b2 b3 b4 b5 b6 b7 : BitVec 32) (t : Fin k0_t2_loop.trips) (X1 : BufTy.Contents (Elt Ideal) arg1.view.ty)
    (X9 : BufTy.Contents (Elt Ideal) arg9.view.ty) (X10 : BufTy.Contents (Elt Ideal) arg10.view.ty) (G12 : BufTy.Contents (Elt Ideal) arg12.view.ty)
    (hpad : ∀ y : S8704x256.Idx, 8640 ≤ (y 0).val → arg12.view.read (Elt Ideal) G12 y = (0 : EReal)) :
    arg12.view.read (Elt Ideal) (arg12.view.writes (Elt Ideal) G12
        (pb_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 k0_t4_loop.trips
          ++ pb_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 k0_t3_loop.trips))
      = asm2 (arg1.view.read (Elt Ideal) X1) (arg9.view.read (Elt Ideal) X9) (arg10.view.read (Elt Ideal) X10) t := by
  funext y
  apply read_writes_of_pieces
  · intro p hp
    rcases List.mem_append.mp hp with hp | hp
    · exact loop4_pieces c arg0 harg0 arg1 harg1 arg2 harg2 arg3 harg3 arg4 harg4 arg5 harg5 arg6 harg6 arg7 harg7 arg8 harg8 arg9 harg9 arg10 harg10 arg11 harg11 arg12 harg12 arg13 harg13 b0 b1 b2 b3 b4 b5 b6 b7 t X1 X9 X10 _ le_rfl p hp
    · exact loop3_pieces c arg0 harg0 arg1 harg1 arg2 harg2 arg3 harg3 arg4 harg4 arg5 harg5 arg6 harg6 arg7 harg7 arg8 harg8 arg9 harg9 arg10 harg10 arg11 harg11 arg12 harg12 arg13 harg13 c0 c1 v431 v433 t X1 X9 X10 _ le_rfl p hp
  · by_cases hp : 8640 ≤ (y 0).val
    · exact Or.inr ((hpad y hp).trans (asm2_pad _ _ _ _ _ hp).symm)
    · left
      have hy : (y 1).val < 256 := (y 1).isLt
      by_cases hc : (y 1).val / 128 = 0
      · obtain ⟨p, hp, h⟩ := loop3_covers c arg0 harg0 arg1 harg1 arg2 harg2 arg3 harg3 arg4 harg4 arg5 harg5 arg6 harg6 arg7 harg7 arg8 harg8 arg9 harg9 arg10 harg10 arg11 harg11 arg12 harg12 arg13 harg13 c0 c1 v431 v433 t X1 X9 X10 y hc _ le_rfl
          (by show (y 0).val / 256 < 27 ∨ 6912 ≤ (y 0).val ∧ ((y 0).val - 6912) / 64 < 27; omega)
        exact ⟨p, List.mem_append_right _ hp, h⟩
      · obtain ⟨p, hp, h⟩ := loop4_covers c arg0 harg0 arg1 harg1 arg2 harg2 arg3 harg3 arg4 harg4 arg5 harg5 arg6 harg6 arg7 harg7 arg8 harg8 arg9 harg9 arg10 harg10 arg11 harg11 arg12 harg12 arg13 harg13 b0 b1 b2 b3 b4 b5 b6 b7 t X1 X9 X10 y (by omega) _ le_rfl
          (by show (y 0).val / 256 < 27 ∨ 6912 ≤ (y 0).val ∧ ((y 0).val - 6912) / 64 < 27; omega)
        exact ⟨p, List.mem_append_left _ hp, h⟩

theorem pad_read (c0 c1 v431 v433 b0 b1 b2 b3 b4 b5 b6 b7 : BitVec 32) (t : Fin k0_t2_loop.trips) (X1 : BufTy.Contents (Elt Ideal) arg1.view.ty)
    (X9 : BufTy.Contents (Elt Ideal) arg9.view.ty) (X10 : BufTy.Contents (Elt Ideal) arg10.view.ty) (G12 : BufTy.Contents (Elt Ideal) arg12.view.ty)
    (y : S8704x256.Idx) (hy : 8640 ≤ (y 0).val) :
    arg12.view.read (Elt Ideal) (arg12.view.writes (Elt Ideal) G12
        (pb_k0_t4 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 t b0 b1 b2 b3 b4 b5 b6 b7 X1 X9 X10 k0_t4_loop.trips
          ++ pb_k0_t3 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 c0 c1 t v431 v433 X1 X9 X10 k0_t3_loop.trips)) y
      = arg12.view.read (Elt Ideal) G12 y := by
  apply View.read_writes_apply_of_forall_not_mem
  intro p hp
  rcases List.mem_append.mp hp with hp | hp
  · exact loop4_below c arg0 harg0 arg1 harg1 arg2 harg2 arg3 harg3 arg4 harg4 arg5 harg5 arg6 harg6 arg7 harg7 arg8 harg8 arg9 harg9 arg10 harg10 arg11 harg11 arg12 harg12 arg13 harg13 b0 b1 b2 b3 b4 b5 b6 b7 t X1 X9 X10 y hy _ le_rfl p hp
  · exact loop3_below c arg0 harg0 arg1 harg1 arg2 harg2 arg3 harg3 arg4 harg4 arg5 harg5 arg6 harg6 arg7 harg7 arg8 harg8 arg9 harg9 arg10 harg10 arg11 harg11 arg12 harg12 arg13 harg13 c0 c1 v431 v433 t X1 X9 X10 y hy _ le_rfl p hp

end

end Cert.Proof.KernelIdeal

end
-- ==== Proof.Step.lean ====
/- One trip of the tile loop, with what it stores. A trip computes two tiles of the two results from the gathered matrix of
   `Tile.lean`: the matrix product with the transposed weights, the scale, the bias and the skip row, the rectifier, and the
   quantiser that takes one exponent per row. `out7` and `out8` are the two results as functions of what the trip reads, and
   `loopInv_t2` is the loop: the tiles of the trips so far are `out7` and `out8`. -/
module

public import proofs.«01_k».proof.Proof.Tile
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! ## What a trip stores -/

/-- The exponent word of a row whose largest value is `a`. -/
def ew (a : EReal) : BitVec 32 :=
  if a = 0 then 0#32
  else IntOp.subi (Finset.fold IntOp.addi (0#32) (fun x : Fin 246 => BitVec.setWidth 32 (BitVec.ofBool (decide
    (Ideal.ofBits FTy.f32 (IntOp.shli ArithUnit.vector (IntOp.addi (BitVec.ofNat 32 ↑x) 1#32) 23#32) ≤ a * Ideal.ofBits FTy.f32 991054117#32)))) Finset.univ) 126#32

/-- The scale of such a row, -/
def scaleOf (a : EReal) : EReal := Ideal.ofBits .f32 (IntOp.shli ArithUnit.vector (IntOp.addi (ew a) 127#32) 23#32)
/-- its inverse, -/
def invOf (a : EReal) : EReal := Ideal.ofBits .f32 (IntOp.shli ArithUnit.vector (IntOp.subi 127#32 (ew a)) 23#32)
/-- and a value of the row as it is stored. -/
def codeOf (a y : EReal) : EReal := min (Ideal.ofBits .f32 1138753536#32) (max (Ideal.ofBits .f32 3286237184#32) (y * invOf a))

section spec
variable (x1 : Vec Ideal S2x7x1x128 .f32) (x9 : Vec Ideal S2x7x80x128 .i32) (x10 : Vec Ideal S2x7x27x128 .i32) (x11 : Vec Ideal S384x8704 .bf16)
  (x6 : Vec Ideal S2x896x384 .bf16) (v404 v407 : FVec Ideal S384x1 .f32)

/-- Channel `o` of voxel `l` of tile `s` of batch `b` before it is quantised. -/
def yv (b : Fin 2) (s : Fin 7) (l : Fin 128) (o : Fin 384) : EReal :=
  max ((∑ p : Fin 8704, x11 (ix2 o p) * asm x1 x9 x10 b s p l) * v404 (ix2 o 0) + v407 (ix2 o 0) + x6 (ix3 b ⟨128 * s.val + l.val, by omega⟩ o)) 0

/-- The largest channel of that voxel. -/
def av (b : Fin 2) (s : Fin 7) (l : Fin 128) : EReal :=
  Finset.fold max (Ideal.ofBits FTy.f32 4286578688#32) (fun o => yv x1 x9 x10 x11 x6 v404 v407 b s l o) Finset.univ

/-- The first result, -/
def out7 : Vec Ideal S2x896x384 .fp8e4m3 := fun y =>
  codeOf (av x1 x9 x10 x11 x6 v404 v407 (y 0) ⟨(y 1).val / 128, by have : (y 1).val < 896 := (y 1).isLt; omega⟩ ⟨(y 1).val % 128, by omega⟩)
    (yv x1 x9 x10 x11 x6 v404 v407 (y 0) ⟨(y 1).val / 128, by have : (y 1).val < 896 := (y 1).isLt; omega⟩ ⟨(y 1).val % 128, by omega⟩ (y 2))

/-- and the second. -/
def out8 : Vec Ideal S2x7x1x128 .f32 := fun y => scaleOf (av x1 x9 x10 x11 x6 v404 v407 (y 0) (y 1) (y 3))

theorem out7_at (b : Fin 2) (s : Fin 7) (l : Fin 128) (o : Fin 384) (y : S2x896x384.Idx) (h0 : (y 0).val = b.val) (h1 : (y 1).val = 128 * s.val + l.val)
    (h2 : (y 2).val = o.val) :
    out7 x1 x9 x10 x11 x6 v404 v407 y = codeOf (av x1 x9 x10 x11 x6 v404 v407 b s l) (yv x1 x9 x10 x11 x6 v404 v407 b s l o) := by
  unfold out7
  rw [show y 0 = b from Fin.ext h0, show y 2 = o from Fin.ext h2]
  have e1 : (⟨(y 1).val / 128, by have : (y 1).val < 896 := (y 1).isLt; omega⟩ : Fin 7) = s := Fin.ext (by show (y 1).val / 128 = s.val; omega)
  have e2 : (⟨(y 1).val % 128, by omega⟩ : Fin 128) = l := Fin.ext (by show (y 1).val % 128 = l.val; omega)
  rw [e1, e2]

theorem out8_at (b : Fin 2) (s : Fin 7) (l : Fin 128) (y : S2x7x1x128.Idx) (h0 : (y 0).val = b.val) (h1 : (y 1).val = s.val) (h3 : (y 3).val = l.val) :
    out8 x1 x9 x10 x11 x6 v404 v407 y = scaleOf (av x1 x9 x10 x11 x6 v404 v407 b s l) := by
  unfold out8
  rw [show y 0 = b from Fin.ext h0, show y 1 = s from Fin.ext h1, show y 3 = l from Fin.ext h3]

/-- The tile's payloads, told of the accumulator and the skip rows they read. -/
theorem pay_y (b : Fin 2) (s : Fin 7) (v488 : Vec Ideal S384x128 .f32) (v491 : Vec Ideal S1x128x384 .bf16)
    (h488 : ∀ (o : Fin 384) (l : Fin 128), v488 (ix2 o l) = ∑ p : Fin 8704, x11 (ix2 o p) * asm x1 x9 x10 b s p l)
    (h491 : ∀ (l : Fin 128) (o : Fin 384), v491 (ix3 0 l o) = x6 (ix3 b ⟨128 * s.val + l.val, by omega⟩ o)) (o : Fin 384) (l : Fin 128) :
    k0_pay193 v404 v407 v488 v491 (ix2 o l) = yv x1 x9 x10 x11 x6 v404 v407 b s l o := by
  pointwise [k0_pay193]
  rw [h488, h491]
  rfl

theorem pay_e (b : Fin 2) (s : Fin 7) (v488 : Vec Ideal S384x128 .f32) (v491 : Vec Ideal S1x128x384 .bf16)
    (h488 : ∀ (o : Fin 384) (l : Fin 128), v488 (ix2 o l) = ∑ p : Fin 8704, x11 (ix2 o p) * asm x1 x9 x10 b s p l)
    (h491 : ∀ (l : Fin 128) (o : Fin 384), v491 (ix3 0 l o) = x6 (ix3 b ⟨128 * s.val + l.val, by omega⟩ o)) (i : Fin 1) (l : Fin 128) :
    k0_pay194 v404 v407 v488 v491 (ix2 i l) = ew (av x1 x9 x10 x11 x6 v404 v407 b s l) := by
  pointwise [k0_pay194]
  simp only [pay_y x1 x9 x10 x11 x6 v404 v407 b s v488 v491 h488 h491]
  rfl

theorem pay_code (b : Fin 2) (s : Fin 7) (v488 : Vec Ideal S384x128 .f32) (v491 : Vec Ideal S1x128x384 .bf16)
    (h488 : ∀ (o : Fin 384) (l : Fin 128), v488 (ix2 o l) = ∑ p : Fin 8704, x11 (ix2 o p) * asm x1 x9 x10 b s p l)
    (h491 : ∀ (l : Fin 128) (o : Fin 384), v491 (ix3 0 l o) = x6 (ix3 b ⟨128 * s.val + l.val, by omega⟩ o)) (i : Fin 1) (l : Fin 128) (o : Fin 384) :
    k0_pay196 (k0_pay193 v404 v407 v488 v491) (k0_pay194 v404 v407 v488 v491) (ix3 i l o)
      = codeOf (av x1 x9 x10 x11 x6 v404 v407 b s l) (yv x1 x9 x10 x11 x6 v404 v407 b s l o) := by
  pointwise [k0_pay196]
  rw [pay_y x1 x9 x10 x11 x6 v404 v407 b s v488 v491 h488 h491, pay_e x1 x9 x10 x11 x6 v404 v407 b s v488 v491 h488 h491]
  rfl

theorem pay_scale (b : Fin 2) (s : Fin 7) (v488 : Vec Ideal S384x128 .f32) (v491 : Vec Ideal S1x128x384 .bf16)
    (h488 : ∀ (o : Fin 384) (l : Fin 128), v488 (ix2 o l) = ∑ p : Fin 8704, x11 (ix2 o p) * asm x1 x9 x10 b s p l)
    (h491 : ∀ (l : Fin 128) (o : Fin 384), v491 (ix3 0 l o) = x6 (ix3 b ⟨128 * s.val + l.val, by omega⟩ o)) (i j k : Fin 1) (l : Fin 128) :
    k0_pay197 (F := Ideal) (k0_pay195 v404 v407 v488 v491) (ix4 i j k l) = scaleOf (av x1 x9 x10 x11 x6 v404 v407 b s l) := by
  pointwise [k0_pay197, k0_pay195]
  rw [pay_e x1 x9 x10 x11 x6 v404 v407 b s v488 v491 h488 h491]
  rfl

end spec

/-! ## The two tiles of a trip, stored -/

theorem off163_eq : ∀ (t : Fin k0_t2_loop.trips) (j : Fin 2), k0_off163 t (BitVec.ofNat 32 j.val) = ![(2 * t.val + j.val) / 7, 128 * ((2 * t.val + j.val) % 7), 0] := by decide +kernel
theorem off164_eq : ∀ (t : Fin k0_t2_loop.trips) (j : Fin 2), k0_off164 t (BitVec.ofNat 32 j.val) = ![(2 * t.val + j.val) / 7, (2 * t.val + j.val) % 7, 0, 0] := by decide +kernel
theorem off163_0 (t : Fin k0_t2_loop.trips) : k0_off163 t 0#32 = ![(2 * t.val + 0) / 7, 128 * ((2 * t.val + 0) % 7), 0] := off163_eq t 0
theorem off163_1 (t : Fin k0_t2_loop.trips) : k0_off163 t 1#32 = ![(2 * t.val + 1) / 7, 128 * ((2 * t.val + 1) % 7), 0] := off163_eq t 1
theorem off164_0 (t : Fin k0_t2_loop.trips) : k0_off164 t 0#32 = ![(2 * t.val + 0) / 7, (2 * t.val + 0) % 7, 0, 0] := off164_eq t 0
theorem off164_1 (t : Fin k0_t2_loop.trips) : k0_off164 t 1#32 = ![(2 * t.val + 1) / 7, (2 * t.val + 1) % 7, 0, 0] := off164_eq t 1

/-- The tiles of the first `k` trips of the first result hold `Y`, if `pad` holds. -/
def Done7 (pad : Prop) (Y r : Vec Ideal S2x896x384 .fp8e4m3) (k : ℕ) : Prop :=
  pad → ∀ y : S2x896x384.Idx, 7 * (y 0).val + (y 1).val / 128 < 2 * k → r y = Y y

/-- The tiles of the first `k` trips of the second result hold `Y`, if `pad` holds. -/
def Done8 (pad : Prop) (Y r : Vec Ideal S2x7x1x128 .f32) (k : ℕ) : Prop :=
  pad → ∀ y : S2x7x1x128.Idx, 7 * (y 0).val + (y 1).val < 2 * k → r y = Y y

theorem Done7_zero (pad : Prop) (Y r : Vec Ideal S2x896x384 .fp8e4m3) : Done7 pad Y r 0 := fun _ y h => absurd h (by omega)
theorem Done8_zero (pad : Prop) (Y r : Vec Ideal S2x7x1x128 .f32) : Done8 pad Y r 0 := fun _ y h => absurd h (by omega)

/-- `P` after the first trip, nothing before it. -/
def afterFirst : ℕ → Prop → Prop
  | 0, _ => True
  | _ + 1, P => P

theorem afterFirst_iff {k : ℕ} {P : Prop} (h0 : k = 0 → P) (h : True = afterFirst k P) : P := by
  cases k with
  | zero => exact h0 rfl
  | succ k => exact (show True = P from h).mp trivial

theorem afterFirst_of (k : ℕ) {P : Prop} (h : P) : True = afterFirst k P := by
  cases k with
  | zero => rfl
  | succ k => exact (eq_true h).symm

/-- Two matrices agree in the rows of padding. -/
def PadSame (x y : Vec Ideal S8704x256 .bf16) : Prop := ∀ i : S8704x256.Idx, 8640 ≤ (i 0).val → x i = y i

@[refl] theorem PadSame.rfl (x : Vec Ideal S8704x256 .bf16) : PadSame x x := fun _ _ => Eq.refl _

/-- Before the first trip a buffer's contents are what they were at the loop's entry; later they are what they are. -/
def sinceEntry {α : Type} : ℕ → α → α → α
  | 0, g, _ => g
  | _ + 1, _, f => f

/-- The rows of padding are zero. -/
def PadZero (x : Vec Ideal S8704x256 .bf16) : Prop := ∀ i : S8704x256.Idx, 8640 ≤ (i 0).val → x i = (0 : EReal)

theorem PadZero.of_same {x y : Vec Ideal S8704x256 .bf16} (h : PadSame x y) (hx : PadZero x) : PadZero y := fun i hi => (h i hi).symm.trans (hx i hi)

section
variable (c : Dev nD)
  (arg0 : Memref sig .tc .vmem S2x896x320 .i8) (harg0 : arg0.IsWhole)
  (arg1 : Memref sig .tc .vmem S2x7x1x128 .f32) (harg1 : arg1.IsWhole)
  (arg2 : Memref sig .tc .vmem S2x896x27 .i32) (harg2 : arg2.IsWhole)
  (arg3 : Memref sig .tc .vmem S27x320x384 .fp8e4m3) (harg3 : arg3.IsWhole)
  (arg4 : Memref sig .tc .vmem S1x384 .f32) (harg4 : arg4.IsWhole)
  (arg5 : Memref sig .tc .vmem S1x384 .f32) (harg5 : arg5.IsWhole)
  (arg6 : Memref sig .tc .vmem S2x896x384 .bf16) (harg6 : arg6.IsWhole)
  (arg7 : Memref sig .tc .vmem S2x896x384 .fp8e4m3) (harg7 : arg7.IsWhole)
  (arg8 : Memref sig .tc .vmem S2x7x1x128 .f32) (harg8 : arg8.IsWhole)
  (arg9 : Memref sig .tc .vmem S2x7x80x128 .i32) (harg9 : arg9.IsWhole)
  (arg10 : Memref sig .tc .vmem S2x7x27x128 .i32) (harg10 : arg10.IsWhole)
  (arg11 : Memref sig .tc .vmem S384x8704 .bf16) (harg11 : arg11.IsWhole)
  (arg12 : Memref sig .tc .vmem S8704x256 .bf16) (harg12 : arg12.IsWhole)
  (arg13 : Memref sig .tc .vmem S384x256 .f32) (harg13 : arg13.IsWhole)

theorem done7_step (pad : Prop) (Y : Vec Ideal S2x896x384 .fp8e4m3) (t : Fin k0_t2_loop.trips) (f7 : BufTy.Contents (Elt Ideal) arg7.view.ty)
    (w0 w1 : Vec Ideal S1x128x384 .fp8e4m3) (h : Done7 pad Y (arg7.view.read (Elt Ideal) f7) t.val)
    (hw0 : pad → ∀ (l : Fin 128) (o : Fin 384) (y : S2x896x384.Idx), (y 0).val = (tb t 0 (by omega)).val → (y 1).val = 128 * (ts t 0).val + l.val → (y 2).val = o.val → w0 (ix3 0 l o) = Y y)
    (hw1 : pad → ∀ (l : Fin 128) (o : Fin 384) (y : S2x896x384.Idx), (y 0).val = (tb t 1 (by omega)).val → (y 1).val = 128 * (ts t 1).val + l.val → (y 2).val = o.val → w1 (ix3 0 l o) = Y y) :
    Done7 pad Y (arg7.view.read (Elt Ideal) (arg7.view.writes (Elt Ideal) f7
      [⟨Rect.unit (s := S2x896x384) (k0_off163 t 1#32) S1x128x384.size (k0_off163_inb t 1), w1⟩,
       ⟨Rect.unit (s := S2x896x384) (k0_off163 t 0#32) S1x128x384.size (k0_off163_inb t 0), w0⟩])) (t.val + 1) := by
  intro hp y hy
  have ht : t.val < 7 := t.isLt
  have hy1 : (y 1).val < 896 := (y 1).isLt
  have hy2 : (y 2).val < 384 := (y 2).isLt
  apply read_writes_of_pieces
  · simp only [List.mem_cons, List.not_mem_nil, or_false, forall_eq_or_imp, forall_eq]
    constructor
    · intro x
      obtain ⟨l, o, rfl⟩ : ∃ (l : Fin 128) (o : Fin 384), x = ix3 0 l o := ⟨x 1, x 2, by
        funext a; match a with | ⟨0, _⟩ => exact Subsingleton.elim (α := Fin 1) _ _ | ⟨1, _⟩ => rfl | ⟨2, _⟩ => rfl⟩
      refine hw1 hp l o _ ?_ ?_ ?_
      · show k0_off163 t 1#32 0 + 1 * 0 = (2 * t.val + 1) / 7; rw [off163_1]; rfl
      · show k0_off163 t 1#32 1 + 1 * l.val = 128 * ((2 * t.val + 1) % 7) + l.val; rw [off163_1]; show 128 * ((2 * t.val + 1) % 7) + 1 * l.val = _; omega
      · show k0_off163 t 1#32 2 + 1 * o.val = o.val; rw [off163_1]; show 0 + 1 * o.val = o.val; omega
    · intro x
      obtain ⟨l, o, rfl⟩ : ∃ (l : Fin 128) (o : Fin 384), x = ix3 0 l o := ⟨x 1, x 2, by
        funext a; match a with | ⟨0, _⟩ => exact Subsingleton.elim (α := Fin 1) _ _ | ⟨1, _⟩ => rfl | ⟨2, _⟩ => rfl⟩
      refine hw0 hp l o _ ?_ ?_ ?_
      · show k0_off163 t 0#32 0 + 1 * 0 = (2 * t.val + 0) / 7; rw [off163_0]; rfl
      · show k0_off163 t 0#32 1 + 1 * l.val = 128 * ((2 * t.val + 0) % 7) + l.val; rw [off163_0]; show 128 * ((2 * t.val + 0) % 7) + 1 * l.val = _; omega
      · show k0_off163 t 0#32 2 + 1 * o.val = o.val; rw [off163_0]; show 0 + 1 * o.val = o.val; omega
  · by_cases h' : 7 * (y 0).val + (y 1).val / 128 < 2 * t.val
    · exact Or.inr (h hp y h')
    · left
      by_cases h0 : 7 * (y 0).val + (y 1).val / 128 = 2 * t.val + 0
      · refine ⟨_, List.mem_cons_of_mem _ List.mem_cons_self, (LoadRect.mem_set _).mpr fun a => ?_⟩
        match a with
        | ⟨0, _⟩ => exact ⟨0, Nat.one_pos, by show (y 0).val = k0_off163 t 0#32 0 + 1 * 0; rw [off163_0]; show (y 0).val = (2 * t.val + 0) / 7 + 1 * 0; omega⟩
        | ⟨1, _⟩ => exact ⟨(y 1).val % 128, by show (y 1).val % 128 < 128; omega, by show (y 1).val = k0_off163 t 0#32 1 + 1 * _; rw [off163_0]; show (y 1).val = 128 * ((2 * t.val + 0) % 7) + 1 * _; omega⟩
        | ⟨2, _⟩ => exact ⟨(y 2).val, hy2, by show (y 2).val = k0_off163 t 0#32 2 + 1 * _; rw [off163_0]; show (y 2).val = 0 + 1 * _; omega⟩
      · have h1 : 7 * (y 0).val + (y 1).val / 128 = 2 * t.val + 1 := by omega
        refine ⟨_, List.mem_cons_self, (LoadRect.mem_set _).mpr fun a => ?_⟩
        match a with
        | ⟨0, _⟩ => exact ⟨0, Nat.one_pos, by show (y 0).val = k0_off163 t 1#32 0 + 1 * 0; rw [off163_1]; show (y 0).val = (2 * t.val + 1) / 7 + 1 * 0; omega⟩
        | ⟨1, _⟩ => exact ⟨(y 1).val % 128, by show (y 1).val % 128 < 128; omega, by show (y 1).val = k0_off163 t 1#32 1 + 1 * _; rw [off163_1]; show (y 1).val = 128 * ((2 * t.val + 1) % 7) + 1 * _; omega⟩
        | ⟨2, _⟩ => exact ⟨(y 2).val, hy2, by show (y 2).val = k0_off163 t 1#32 2 + 1 * _; rw [off163_1]; show (y 2).val = 0 + 1 * _; omega⟩

theorem done8_step (pad : Prop) (Y : Vec Ideal S2x7x1x128 .f32) (t : Fin k0_t2_loop.trips) (f8 : BufTy.Contents (Elt Ideal) arg8.view.ty)
    (w0 w1 : Vec Ideal S1x1x1x128 .f32) (h : Done8 pad Y (arg8.view.read (Elt Ideal) f8) t.val)
    (hw0 : pad → ∀ (l : Fin 128) (y : S2x7x1x128.Idx), (y 0).val = (tb t 0 (by omega)).val → (y 1).val = (ts t 0).val → (y 3).val = l.val → w0 (ix4 0 0 0 l) = Y y)
    (hw1 : pad → ∀ (l : Fin 128) (y : S2x7x1x128.Idx), (y 0).val = (tb t 1 (by omega)).val → (y 1).val = (ts t 1).val → (y 3).val = l.val → w1 (ix4 0 0 0 l) = Y y) :
    Done8 pad Y (arg8.view.read (Elt Ideal) (arg8.view.writes (Elt Ideal) f8
      [⟨Rect.unit (s := S2x7x1x128) (k0_off164 t 1#32) S1x1x1x128.size (k0_off164_inb t 1), w1⟩,
       ⟨Rect.unit (s := S2x7x1x128) (k0_off164 t 0#32) S1x1x1x128.size (k0_off164_inb t 0), w0⟩])) (t.val + 1) := by
  intro hp y hy
  have ht : t.val < 7 := t.isLt
  have hy1 : (y 1).val < 7 := (y 1).isLt
  have hy2 : (y 2).val < 1 := (y 2).isLt
  have hy3 : (y 3).val < 128 := (y 3).isLt
  apply read_writes_of_pieces
  · simp only [List.mem_cons, List.not_mem_nil, or_false, forall_eq_or_imp, forall_eq]
    constructor
    · intro x
      obtain ⟨l, rfl⟩ : ∃ (l : Fin 128), x = ix4 0 0 0 l := ⟨x 3, by
        funext a; match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
      refine hw1 hp l _ ?_ ?_ ?_
      · show k0_off164 t 1#32 0 + 1 * 0 = (2 * t.val + 1) / 7; rw [off164_1]; rfl
      · show k0_off164 t 1#32 1 + 1 * 0 = (2 * t.val + 1) % 7; rw [off164_1]; rfl
      · show k0_off164 t 1#32 3 + 1 * l.val = l.val; rw [off164_1]; show 0 + 1 * l.val = l.val; omega
    · intro x
      obtain ⟨l, rfl⟩ : ∃ (l : Fin 128), x = ix4 0 0 0 l := ⟨x 3, by
        funext a; match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
      refine hw0 hp l _ ?_ ?_ ?_
      · show k0_off164 t 0#32 0 + 1 * 0 = (2 * t.val + 0) / 7; rw [off164_0]; rfl
      · show k0_off164 t 0#32 1 + 1 * 0 = (2 * t.val + 0) % 7; rw [off164_0]; rfl
      · show k0_off164 t 0#32 3 + 1 * l.val = l.val; rw [off164_0]; show 0 + 1 * l.val = l.val; omega
  · by_cases h' : 7 * (y 0).val + (y 1).val < 2 * t.val
    · exact Or.inr (h hp y h')
    · left
      by_cases h0 : 7 * (y 0).val + (y 1).val = 2 * t.val + 0
      · refine ⟨_, List.mem_cons_of_mem _ List.mem_cons_self, (LoadRect.mem_set _).mpr fun a => ?_⟩
        match a with
        | ⟨0, _⟩ => exact ⟨0, Nat.one_pos, by show (y 0).val = k0_off164 t 0#32 0 + 1 * 0; rw [off164_0]; show (y 0).val = (2 * t.val + 0) / 7 + 1 * 0; omega⟩
        | ⟨1, _⟩ => exact ⟨0, Nat.one_pos, by show (y 1).val = k0_off164 t 0#32 1 + 1 * 0; rw [off164_0]; show (y 1).val = (2 * t.val + 0) % 7 + 1 * 0; omega⟩
        | ⟨2, _⟩ => exact ⟨0, Nat.one_pos, by show (y 2).val = k0_off164 t 0#32 2 + 1 * 0; rw [off164_0]; show (y 2).val = 0 + 1 * 0; omega⟩
        | ⟨3, _⟩ => exact ⟨(y 3).val, hy3, by show (y 3).val = k0_off164 t 0#32 3 + 1 * _; rw [off164_0]; show (y 3).val = 0 + 1 * _; omega⟩
      · have h1 : 7 * (y 0).val + (y 1).val = 2 * t.val + 1 := by omega
        refine ⟨_, List.mem_cons_self, (LoadRect.mem_set _).mpr fun a => ?_⟩
        match a with
        | ⟨0, _⟩ => exact ⟨0, Nat.one_pos, by show (y 0).val = k0_off164 t 1#32 0 + 1 * 0; rw [off164_1]; show (y 0).val = (2 * t.val + 1) / 7 + 1 * 0; omega⟩
        | ⟨1, _⟩ => exact ⟨0, Nat.one_pos, by show (y 1).val = k0_off164 t 1#32 1 + 1 * 0; rw [off164_1]; show (y 1).val = (2 * t.val + 1) % 7 + 1 * 0; omega⟩
        | ⟨2, _⟩ => exact ⟨0, Nat.one_pos, by show (y 2).val = k0_off164 t 1#32 2 + 1 * 0; rw [off164_1]; show (y 2).val = 0 + 1 * 0; omega⟩
        | ⟨3, _⟩ => exact ⟨(y 3).val, hy3, by show (y 3).val = k0_off164 t 1#32 3 + 1 * _; rw [off164_1]; show (y 3).val = 0 + 1 * _; omega⟩

/-- Half `j` of the accumulator, read back from the product stored over all of it. -/
theorem acc_read (j : ℕ) (off : Fin 2 → ℕ) (hoff : off = ![0, 128 * j]) (hj : j < 2) (inb : ∀ a, off a + S384x128.size a ≤ S384x256.size a)
    (inb' : ∀ a, (![0, 0] : Fin 2 → ℕ) a + S384x256.size a ≤ S384x256.size a)
    (A : Vec Ideal S384x8704 .bf16) (B : Vec Ideal S8704x256 .bf16) (o : Fin 384) (l : Fin 128) :
    (arg13.view.readCov (Val := Elt Ideal) [⟨Rect.unit (s := S384x256) ![0, 0] S384x256.size inb', k0_pay192 A B⟩] (Rect.unit (s := S384x256) off S384x128.size inb).toLoadRect (ix2 o l))
      = ∑ p : Fin 8704, A (ix2 o p) * B (ix2 p ⟨128 * j + l.val, by omega⟩) := by
  subst hoff
  have h : arg13.view.readCov (Val := Elt Ideal) [⟨Rect.unit (s := S384x256) ![0, 0] S384x256.size inb', k0_pay192 A B⟩] (Rect.unit (s := S384x256) ![0, 128 * j] S384x128.size inb).toLoadRect (ix2 o l)
      = k0_pay192 A B (ix2 o ⟨128 * j + l.val, by omega⟩) := by
    refine View.read_writes_cons_hit_of_coords _ _ _ _ _ _ _ fun a => ?_
    match a with
    | ⟨0, _⟩ => show 0 + 1 * o.val = 0 + 1 * o.val; rfl
    | ⟨1, _⟩ => show 128 * j + 1 * l.val = 0 + 1 * (128 * j + l.val); omega
  rw [h]
  pointwise [k0_pay192]

/-- A row of skip values. -/
theorem skip_read (t : Fin k0_t2_loop.trips) (j : ℕ) (hj : j < 2) (w : BitVec 32) (hw : k0_off163 t w = ![(2 * t.val + j) / 7, 128 * ((2 * t.val + j) % 7), 0])
    (inb : ∀ a, k0_off163 t w a + S1x128x384.size a ≤ S2x896x384.size a) (X6 : BufTy.Contents (Elt Ideal) arg6.view.ty) (l : Fin 128) (o : Fin 384) :
    arg6.view.readAt (Elt Ideal) (Rect.unit (s := S2x896x384) (k0_off163 t w) S1x128x384.size inb).toLoadRect X6 (ix3 0 l o)
      = arg6.view.read (Elt Ideal) X6 (ix3 (tb t j hj) ⟨128 * (ts t j).val + l.val, by omega⟩ o) := by
  rw [View.readAt_apply]
  congr 1
  funext a
  apply Fin.ext
  match a with
  | ⟨0, _⟩ => show k0_off163 t w 0 + 1 * 0 = (2 * t.val + j) / 7; rw [hw]; rfl
  | ⟨1, _⟩ => show k0_off163 t w 1 + 1 * l.val = 128 * ((2 * t.val + j) % 7) + l.val; rw [hw]; show 128 * ((2 * t.val + j) % 7) + 1 * l.val = _; omega
  | ⟨2, _⟩ => show k0_off163 t w 2 + 1 * o.val = o.val; rw [hw]; show 0 + 1 * o.val = _; omega

/-- A whole matrix loaded is the matrix. -/
theorem load_whole {n0 n1 : ℕ} {e : EltTy} (m : Memref sig .tc .vmem ⟨2, ![n0, n1]⟩ e) (inb : ∀ a, (![0, 0] : Fin 2 → ℕ) a + (⟨2, ![n0, n1]⟩ : Shape).size a ≤ (⟨2, ![n0, n1]⟩ : Shape).size a)
    (X : BufTy.Contents (Elt Ideal) m.view.ty) :
    m.view.readAt (Elt Ideal) (Rect.unit (s := ⟨2, ![n0, n1]⟩) ![0, 0] (⟨2, ![n0, n1]⟩ : Shape).size inb).toLoadRect X = m.view.read (Elt Ideal) X := by
  funext x
  rw [View.readAt_apply]
  congr 1
  funext a
  apply Fin.ext
  match a with
  | ⟨0, _⟩ => show 0 + 1 * (x 0).val = (x 0).val; omega
  | ⟨1, _⟩ => show 0 + 1 * (x 1).val = (x 1).val; omega

theorem asm2_col (x1 : Vec Ideal S2x7x1x128 .f32) (x9 : Vec Ideal S2x7x80x128 .i32) (x10 : Vec Ideal S2x7x27x128 .i32) (t : Fin 7) (j : ℕ) (hj : j < 2)
    (p : Fin 8704) (l : Fin 128) : asm2 x1 x9 x10 t (ix2 p ⟨128 * j + l.val, by omega⟩) = asm x1 x9 x10 (tb t j hj) (ts t j) p l := by
  have e : (128 * j + l.val) / 128 = j := by omega
  have e' : (⟨(128 * j + l.val) % 128, by omega⟩ : Fin 128) = l := Fin.ext (by show (128 * j + l.val) % 128 = l.val; omega)
  show asm x1 x9 x10 (tb t ((128 * j + l.val) / 128) _) (ts t ((128 * j + l.val) / 128)) p ⟨(128 * j + l.val) % 128, _⟩ = _
  rw [e']
  simp only [e]

end

/-! ## The loop over the pairs of tiles -/

set_option warn.classDefReducibility false in
set_option maxHeartbeats 4000000 in
/-- The loop over the pairs of tiles: the scales, the skip rows, the packed codes, the neighbour indices and the transposed weights
    are only read; the gathered matrix keeps its rows of padding; the tiles stored so far are `out7` and `out8`, if the padding is
    zero. -/
@[sl_loop] def loopVal_t2 (c : Dev nD)
    (arg0 : Memref sig .tc .vmem S2x896x320 .i8) (harg0 : arg0.IsWhole)
    (arg1 : Memref sig .tc .vmem S2x7x1x128 .f32) (harg1 : arg1.IsWhole)
    (arg2 : Memref sig .tc .vmem S2x896x27 .i32) (harg2 : arg2.IsWhole)
    (arg3 : Memref sig .tc .vmem S27x320x384 .fp8e4m3) (harg3 : arg3.IsWhole)
    (arg4 : Memref sig .tc .vmem S1x384 .f32) (harg4 : arg4.IsWhole)
    (arg5 : Memref sig .tc .vmem S1x384 .f32) (harg5 : arg5.IsWhole)
    (arg6 : Memref sig .tc .vmem S2x896x384 .bf16) (harg6 : arg6.IsWhole)
    (arg7 : Memref sig .tc .vmem S2x896x384 .fp8e4m3) (harg7 : arg7.IsWhole)
    (arg8 : Memref sig .tc .vmem S2x7x1x128 .f32) (harg8 : arg8.IsWhole)
    (arg9 : Memref sig .tc .vmem S2x7x80x128 .i32) (harg9 : arg9.IsWhole)
    (arg10 : Memref sig .tc .vmem S2x7x27x128 .i32) (harg10 : arg10.IsWhole)
    (arg11 : Memref sig .tc .vmem S384x8704 .bf16) (harg11 : arg11.IsWhole)
    (arg12 : Memref sig .tc .vmem S8704x256 .bf16) (harg12 : arg12.IsWhole)
    (arg13 : Memref sig .tc .vmem S384x256 .f32) (harg13 : arg13.IsWhole)
    (v404 : FVec Ideal S384x1 .f32) (v407 : FVec Ideal S384x1 .f32)
    (X1 : BufTy.Contents (Elt Ideal) arg1.view.ty) (X6 : BufTy.Contents (Elt Ideal) arg6.view.ty) (X9 : BufTy.Contents (Elt Ideal) arg9.view.ty) (X10 : BufTy.Contents (Elt Ideal) arg10.view.ty) (X11 : BufTy.Contents (Elt Ideal) arg11.view.ty)
    (G12 : BufTy.Contents (Elt Ideal) arg12.view.ty) :
    LoopInvTy_k0_t2 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 v404 v407 where
  inv := fun k _ => iprop((arg1.view.loc (c : Thread nD τ) ↦[arg1.view.set]{fullShare} X1) ∗ (arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg12.view.loc (c : Thread nD τ) ↦[arg12.view.set]{fullShare} f) ∗ ⌜f = sinceEntry k G12 f⌝ ∗ ⌜PadSame (arg12.view.read (Elt Ideal) G12) (arg12.view.read (Elt Ideal) f)⌝)
    ∗ (∃ f, (arg7.view.loc (c : Thread nD τ) ↦[arg7.view.set]{fullShare} f) ∗ ⌜True = afterFirst k (Done7 (PadZero (arg12.view.read (Elt Ideal) G12)) (out7 (arg1.view.read (Elt Ideal) X1) (arg9.view.read (Elt Ideal) X9) (arg10.view.read (Elt Ideal) X10) (arg11.view.read (Elt Ideal) X11) (arg6.view.read (Elt Ideal) X6) v404 v407) (arg7.view.read (Elt Ideal) f) k)⌝)
    ∗ (∃ f, (arg8.view.loc (c : Thread nD τ) ↦[arg8.view.set]{fullShare} f) ∗ ⌜True = afterFirst k (Done8 (PadZero (arg12.view.read (Elt Ideal) G12)) (out8 (arg1.view.read (Elt Ideal) X1) (arg9.view.read (Elt Ideal) X9) (arg10.view.read (Elt Ideal) X10) (arg11.view.read (Elt Ideal) X11) (arg6.view.read (Elt Ideal) X6) v404 v407) (arg8.view.read (Elt Ideal) f) k)⌝)
    ∗ (∃ f, (arg13.view.loc (c : Thread nD τ) ↦[arg13.view.set]{fullShare} f)))
  step := fun k acc => by
    iintro ⟨H1, H6, H9, H10, H11, ⟨%f12, H12, -, %h12⟩, ⟨%f7, H7, %h7⟩, ⟨%f8, H8, %h8⟩, ⟨%f13, H13⟩⟩
    unfold k0_t2_body
    sl_exec
    sl_step
    have hB (hp : PadZero (arg12.view.read (Elt Ideal) G12)) : loopVal_t2.sl.v460 c arg0 harg0 arg1 harg1 arg2 harg2 arg3 harg3 arg4 harg4 arg5 harg5 arg6 harg6 arg7 harg7 arg8 harg8 arg9 harg9 arg10 harg10 arg11 harg11 arg12 harg12 arg13 harg13 X1 X9 X10 k f12
        = asm2 (arg1.view.read (Elt Ideal) X1) (arg9.view.read (Elt Ideal) X9) (arg10.view.read (Elt Ideal) X10) k :=
      (load_whole arg12 _ _).trans (asm_read c arg0 harg0 arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ _ k X1 X9 X10 f12 (PadZero.of_same h12 hp))
    have hacc (hp : PadZero (arg12.view.read (Elt Ideal) G12)) (j : ℕ) (hj : j < 2) (inb : ∀ a, (![0, 128 * j] : Fin 2 → ℕ) a + S384x128.size a ≤ S384x256.size a) (o : Fin 384) (l : Fin 128) :
        arg13.view.readCov (loopVal_t2.sl.H13_1 c arg0 harg0 arg1 harg1 arg2 harg2 arg3 harg3 arg4 harg4 arg5 harg5 arg6 harg6 arg7 harg7 arg8 harg8 arg9 harg9 arg10 harg10 arg11 harg11 arg12 harg12 arg13 harg13 X1 X9 X10 X11 k f12) (Rect.unit (s := S384x256) ![0, 128 * j] S384x128.size inb).toLoadRect (ix2 o l)
          = ∑ p : Fin 8704, arg11.view.read (Elt Ideal) X11 (ix2 o p)
              * asm (arg1.view.read (Elt Ideal) X1) (arg9.view.read (Elt Ideal) X9) (arg10.view.read (Elt Ideal) X10) (tb k j hj) (ts k j) p l := by
      refine (acc_read arg13 j _ rfl hj inb _ _ _ o l).trans (Finset.sum_congr rfl fun p _ => ?_)
      rw [load_whole arg11, hB hp]
      exact congrArg _ (asm2_col _ _ _ k j hj p l)
    have h488 (hp : PadZero (arg12.view.read (Elt Ideal) G12)) := hacc hp 0 (by omega) inb_S384x256_S384x128_0_0
    have h576 (hp : PadZero (arg12.view.read (Elt Ideal) G12)) := hacc hp 1 (by omega) inb_S384x256_S384x128_0_128
    isplitl [H1]; · iexact H1
    isplitl [H6]; · iexact H6
    isplitl [H9]; · iexact H9
    isplitl [H10]; · iexact H10
    isplitl [H11]; · iexact H11
    isplitl [H12]
    · iexists _; isplitl [H12]; · iexact H12
      isplitr; · ipureintro; rfl
      ipureintro
      intro y hy
      rw [h12 y hy]
      exact (pad_read c arg0 harg0 arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ _ k X1 X9 X10 f12 y hy).symm
    isplitl [H7]
    · iexists _; isplitl [H7]; · iexact H7
      ipureintro
      refine afterFirst_of _ ?_
      apply done7_step
      · exact afterFirst_iff (fun h0 => by rw [h0]; exact Done7_zero _ _ _) h7
      · intro hp l o y e0 e1 e2
        rw [out7_at _ _ _ _ _ _ _ (tb k 0 (by omega)) (ts k 0) l o y e0 e1 e2]
        exact pay_code _ _ _ _ _ _ _ _ _ _ _ (h488 hp) (skip_read arg6 k 0 (by omega) _ (off163_0 k) _ X6) 0 l o
      · intro hp l o y e0 e1 e2
        rw [out7_at _ _ _ _ _ _ _ (tb k 1 (by omega)) (ts k 1) l o y e0 e1 e2]
        exact pay_code _ _ _ _ _ _ _ _ _ _ _ (h576 hp) (skip_read arg6 k 1 (by omega) _ (off163_1 k) _ X6) 0 l o
    isplitl [H8]
    · iexists _; isplitl [H8]; · iexact H8
      ipureintro
      refine afterFirst_of _ ?_
      apply done8_step
      · exact afterFirst_iff (fun h0 => by rw [h0]; exact Done8_zero _ _ _) h8
      · intro hp l y e0 e1 e3
        rw [out8_at _ _ _ _ _ _ _ (tb k 0 (by omega)) (ts k 0) l y e0 e1 e3]
        exact pay_scale _ _ _ _ _ _ _ _ _ _ _ (h488 hp) (skip_read arg6 k 0 (by omega) _ (off163_0 k) _ X6) 0 0 0 l
      · intro hp l y e0 e1 e3
        rw [out8_at _ _ _ _ _ _ _ (tb k 1 (by omega)) (ts k 1) l y e0 e1 e3]
        exact pay_scale _ _ _ _ _ _ _ _ _ _ _ (h576 hp) (skip_read arg6 k 1 (by omega) _ (off163_1 k) _ X6) 0 0 0 l
    · iexists _; iexact H13

end Cert.Proof.KernelIdeal

end
-- ==== Proof.Pack.lean ====
/- What the kernel's first part leaves in its scratch memories, piece by piece. The codes are transposed and packed four to a
   32-bit word (`xtw`), the neighbour table is transposed (`ntw`), and the weights are transposed and laid out in the order of the
   rows of the gathered matrix (`wtw`): 256 columns for each of the 27 kernel offsets, then the remaining 64 columns of each. -/
module

public import proofs.«01_k».proof.Proof.Step
public import Idealize.ShloMosaic.Lib.BitcastFour

@[expose] public section

set_option maxRecDepth 65536

noncomputable section

namespace Cert.Proof.KernelIdeal

open Cert.KernelIdeal Cert.KernelIdeal.Gen
open Idealize.ShloMosaic Idealize.ShloMosaic.TcCoe

/-! ## A byte through a float and back -/

theorem fptosi_byte (φ : FTy) (x : BitVec 8) : (FloatOps.fptosi (F := Ideal) (φ := φ) 8 (FloatOps.sitofp (F := Ideal) φ x)) = x := by
  show Ideal.fptosi 8 (((x.toInt : ℝ)) : EReal) = x
  unfold Ideal.fptosi
  show BitVec.ofInt 8 (max _ (min _ (if (0 : ℝ) ≤ (x.toInt : ℝ) then ⌊(x.toInt : ℝ)⌋ else ⌈(x.toInt : ℝ)⌉))) = x
  have h1 := BitVec.toInt_lt (x := x)
  have h2 := BitVec.le_toInt (x := x)
  rw [Int.floor_intCast, Int.ceil_intCast, ite_self, min_eq_right (by norm_num at *; omega), max_eq_right (by norm_num at *; omega), BitVec.ofInt_toInt]

/-! ## The packed codes -/

/-- Four bytes as a word, the first the lowest, -/
def fourBytes (f : Fin 4 → BitVec 8) : BitVec 32 := f 3 ++ (f 2 ++ (f 1 ++ f 0))

/-- read at a bit. -/
theorem fourBytes_getLsbD (f : Fin 4 → BitVec 8) (q : ℕ) (hq : q < 32) :
    (fourBytes f).getLsbD q = (f ⟨q / 8, by omega⟩).getLsbD (q % 8) := by
  unfold fourBytes
  rw [BitVec.getLsbD_append, BitVec.getLsbD_append, BitVec.getLsbD_append]
  have hc : q / 8 = 0 ∨ q / 8 = 1 ∨ q / 8 = 2 ∨ q / 8 = 3 := by omega
  rcases hc with h | h | h | h
  · rw [if_pos (by omega), if_pos (by omega), if_pos (by omega), show (⟨q / 8, by omega⟩ : Fin 4) = 0 from Fin.ext h, show q % 8 = q by omega]
  · rw [if_pos (by omega), if_pos (by omega), if_neg (by omega), show (⟨q / 8, by omega⟩ : Fin 4) = 1 from Fin.ext h, show q % 8 = q - 8 by omega]
  · rw [if_pos (by omega), if_neg (by omega), show (⟨q / 8, by omega⟩ : Fin 4) = 2 from Fin.ext h, show q % 8 = q - (8 + 8) by omega]
  · rw [if_neg (by omega), show (⟨q / 8, by omega⟩ : Fin 4) = 3 from Fin.ext h, show q % 8 = q - (8 + (8 + 8)) by omega]

/-- Word `R` of voxel `l` of tile `h` of batch `b`: channels `4R` to `4R+3`, the first the lowest byte. -/
def xtw (x0 : Vec Ideal S2x896x320 .i8) : Vec Ideal S2x7x80x128 .i32 := fun y =>
  fourBytes fun j => x0 (ix3 (y 0) ⟨128 * (y 1).val + (y 3).val, by
    have h1 : (y 1).val < 7 := (y 1).isLt
    have h3 : (y 3).val < 128 := (y 3).isLt
    omega⟩ ⟨4 * (y 2).val + j.val, by have h2 : (y 2).val < 80 := (y 2).isLt; omega⟩)

theorem xtw_byte (x0 : Vec Ideal S2x896x320 .i8) (b : Fin 2) (h : Fin 7) (l : Fin 128) (d : Fin 320) :
    BitVec.extractLsb' (8 * (d.val % 4)) 8 (xtw x0 (ix4 b h ⟨d.val / 4, by omega⟩ l)) = x0 (ix3 b ⟨128 * h.val + l.val, by omega⟩ d) := by
  refine BitVec.eq_of_getLsbD_eq fun i hi => ?_
  rw [BitVec.getLsbD_extractLsb']
  simp only [hi, decide_true, Bool.true_and]
  unfold xtw
  rw [fourBytes_getLsbD _ _ (by omega)]
  have e1 : (8 * (d.val % 4) + i) % 8 = i := by omega
  have e2 : (⟨4 * (d.val / 4) + (8 * (d.val % 4) + i) / 8, by omega⟩ : Fin 320) = d := Fin.ext (by show 4 * (d.val / 4) + (8 * (d.val % 4) + i) / 8 = d.val; omega)
  show BitVec.getLsbD (x0 (ix3 b _ ⟨4 * (d.val / 4) + (8 * (d.val % 4) + i) / 8, _⟩)) ((8 * (d.val % 4) + i) % 8) = _
  rw [e1, e2]
  rfl

/-- A block of 32 rows of words. -/
theorem word32 (v : Vec Ideal S1x896x320 .i8) (g : ℕ) (hg : g + 128 ≤ 320) (hs : _) (ht : _) (hbc : _) (hsh : _) (R : Fin 32) (c : Fin 896) :
    bitcast S32x896 32 (fptosi 8 (transpose S128x896 [1, 0]
        (extractStridedSlice S896x128 ![0, g] (sitofp .bf16 (shapeCast S896x320 v hsh) : FVec Ideal S896x320 .bf16) hs) ht)) hbc (ix2 R c)
      = fourBytes fun j => v (ix3 0 c ⟨g + (4 * R.val + j.val), by omega⟩) := by
  refine BitVec.eq_of_getLsbD_eq fun q hq => ?_
  rw [fourBytes_getLsbD _ q hq]
  refine (bitcast_8_32_getLsbD_ix2 _ hbc R c q hq ⟨4 * R.val + q / 8, by omega⟩ rfl).trans ?_
  pointwise
  rw [fptosi_byte]

theorem word_piece32 (x0 : Vec Ideal S2x896x320 .i8) (b : Fin 2) (v : Vec Ideal S1x896x320 .i8) (hv : ∀ (r : Fin 896) (d : Fin 320), v (ix3 0 r d) = x0 (ix3 b r d))
    (b' h r col g : ℕ) (hb : b' = b.val) (hcol : col = 128 * h) (hg : g = 4 * r)
    (hs : _) (ht : _) (hsl : _) (hbc : _) (hsc : _) (hsh : _)
    (hin : ∀ a, ![b', h, r, 0] a + S1x1x32x128.size a ≤ S2x7x80x128.size a) (x : S1x1x32x128.Idx) :
    shapeCast S1x1x32x128 (extractStridedSlice S32x128 ![0, col] (bitcast S32x896 32 (fptosi 8 (transpose S128x896 [1, 0]
        (extractStridedSlice S896x128 ![0, g] (sitofp .bf16 (shapeCast S896x320 v hsh) : FVec Ideal S896x320 .bf16) hs) ht)) hbc) hsl) hsc x
      = xtw x0 ((Rect.unit (s := S2x7x80x128) ![b', h, r, 0] S1x1x32x128.size hin).emb x) := by
  obtain ⟨i0, i1, R, l, rfl⟩ : ∃ (i0 : Fin 1) (i1 : Fin 1) (R : Fin 32) (l : Fin 128), x = ix4 i0 i1 R l := ⟨x 0, x 1, x 2, x 3, eq_ix4 x⟩
  have hh : h + 1 ≤ 7 := hin 1
  have hr : r + 32 ≤ 80 := hin 2
  pointwise
  refine (word32 v g (by omega) hs ht hbc hsh R _).trans ?_
  unfold xtw
  congr 1
  funext j
  rw [hv]
  congr 1
  funext a
  apply Fin.ext
  match a with
  | ⟨0, _⟩ => show b.val = b' + 1 * i0.val; omega
  | ⟨1, _⟩ => show col + l.val = 128 * (h + 1 * i1.val) + (0 + 1 * l.val); omega
  | ⟨2, _⟩ => show g + (4 * R.val + j.val) = 4 * (r + 1 * R.val) + j.val; omega

/-- A block of 16 rows of words. -/
theorem word16 (v : Vec Ideal S1x896x320 .i8) (g : ℕ) (hg : g + 64 ≤ 320) (hs : _) (ht : _) (hbc : _) (hsh : _) (R : Fin 16) (c : Fin 896) :
    bitcast S16x896 32 (fptosi 8 (transpose S64x896 [1, 0]
        (extractStridedSlice S896x64 ![0, g] (sitofp .bf16 (shapeCast S896x320 v hsh) : FVec Ideal S896x320 .bf16) hs) ht)) hbc (ix2 R c)
      = fourBytes fun j => v (ix3 0 c ⟨g + (4 * R.val + j.val), by omega⟩) := by
  refine BitVec.eq_of_getLsbD_eq fun q hq => ?_
  rw [fourBytes_getLsbD _ q hq]
  refine (bitcast_8_32_getLsbD_ix2 _ hbc R c q hq ⟨4 * R.val + q / 8, by omega⟩ rfl).trans ?_
  pointwise
  rw [fptosi_byte]

theorem word_piece16 (x0 : Vec Ideal S2x896x320 .i8) (b : Fin 2) (v : Vec Ideal S1x896x320 .i8) (hv : ∀ (r : Fin 896) (d : Fin 320), v (ix3 0 r d) = x0 (ix3 b r d))
    (b' h r col g : ℕ) (hb : b' = b.val) (hcol : col = 128 * h) (hg : g = 4 * r)
    (hs : _) (ht : _) (hsl : _) (hbc : _) (hsc : _) (hsh : _)
    (hin : ∀ a, ![b', h, r, 0] a + S1x1x16x128.size a ≤ S2x7x80x128.size a) (x : S1x1x16x128.Idx) :
    shapeCast S1x1x16x128 (extractStridedSlice S16x128 ![0, col] (bitcast S16x896 32 (fptosi 8 (transpose S64x896 [1, 0]
        (extractStridedSlice S896x64 ![0, g] (sitofp .bf16 (shapeCast S896x320 v hsh) : FVec Ideal S896x320 .bf16) hs) ht)) hbc) hsl) hsc x
      = xtw x0 ((Rect.unit (s := S2x7x80x128) ![b', h, r, 0] S1x1x16x128.size hin).emb x) := by
  obtain ⟨i0, i1, R, l, rfl⟩ : ∃ (i0 : Fin 1) (i1 : Fin 1) (R : Fin 16) (l : Fin 128), x = ix4 i0 i1 R l := ⟨x 0, x 1, x 2, x 3, eq_ix4 x⟩
  have hh : h + 1 ≤ 7 := hin 1
  have hr : r + 16 ≤ 80 := hin 2
  pointwise
  refine (word16 v g (by omega) hs ht hbc hsh R _).trans ?_
  unfold xtw
  congr 1
  funext j
  rw [hv]
  congr 1
  funext a
  apply Fin.ext
  match a with
  | ⟨0, _⟩ => show b.val = b' + 1 * i0.val; omega
  | ⟨1, _⟩ => show col + l.val = 128 * (h + 1 * i1.val) + (0 + 1 * l.val); omega
  | ⟨2, _⟩ => show g + (4 * R.val + j.val) = 4 * (r + 1 * R.val) + j.val; omega

/-! ## The transposed neighbour table -/

/-- Neighbour `k` of voxel `l` of tile `h` of batch `b`. -/
def ntw (x2 : Vec Ideal S2x896x27 .i32) : Vec Ideal S2x7x27x128 .i32 := fun y =>
  x2 (ix3 (y 0) ⟨128 * (y 1).val + (y 3).val, by
    have h1 : (y 1).val < 7 := (y 1).isLt
    have h3 : (y 3).val < 128 := (y 3).isLt
    omega⟩ (y 2))

theorem nbr_piece (x2 : Vec Ideal S2x896x27 .i32) (b : Fin 2) (v : Vec Ideal S1x896x27 .i32) (hv : ∀ (r : Fin 896) (d : Fin 27), v (ix3 0 r d) = x2 (ix3 b r d))
    (b' h col : ℕ) (hb : b' = b.val) (hcol : col = 128 * h) (ht : _) (hsl : _) (hsc : _) (hsh : _)
    (hin : ∀ a, ![b', h, 0, 0] a + S1x1x27x128.size a ≤ S2x7x27x128.size a) (x : S1x1x27x128.Idx) :
    shapeCast S1x1x27x128 (extractStridedSlice S27x128 ![0, col] (transpose S27x896 [1, 0] (shapeCast S896x27 v hsh) ht) hsl) hsc x
      = ntw x2 ((Rect.unit (s := S2x7x27x128) ![b', h, 0, 0] S1x1x27x128.size hin).emb x) := by
  obtain ⟨i0, i1, R, l, rfl⟩ : ∃ (i0 : Fin 1) (i1 : Fin 1) (R : Fin 27) (l : Fin 128), x = ix4 i0 i1 R l := ⟨x 0, x 1, x 2, x 3, eq_ix4 x⟩
  have hh : h + 1 ≤ 7 := hin 1
  pointwise
  unfold ntw
  rw [hv]
  congr 1
  funext a
  apply Fin.ext
  match a with
  | ⟨0, _⟩ => show b.val = b' + 1 * i0.val; omega
  | ⟨1, _⟩ => show col + l.val = 128 * (h + 1 * i1.val) + (0 + 1 * l.val); omega
  | ⟨2, _⟩ => show R.val = 0 + 1 * R.val; omega

/-! ## The weights -/

/-- Output channel `o` of row `p` of the gathered matrix. -/
def wtw (x3 : Vec Ideal S27x320x384 .fp8e4m3) : Vec Ideal S384x8704 .bf16 := fun y =>
  if h : (y 1).val < 6912 then x3 (ix3 ⟨(y 1).val / 256, by omega⟩ ⟨(y 1).val % 256, by omega⟩ (y 0))
  else if h' : (y 1).val < 8640 then x3 (ix3 ⟨((y 1).val - 6912) / 64, by omega⟩ ⟨256 + ((y 1).val - 6912) % 64, by omega⟩ (y 0))
  else 0

theorem wtw_big (x3 : Vec Ideal S27x320x384 .fp8e4m3) (y : S384x8704.Idx) (k : Fin 27) (d : Fin 320) (o : Fin 384) (hd : d.val < 256)
    (h0 : (y 0).val = o.val) (h1 : (y 1).val = 256 * k.val + d.val) : wtw x3 y = x3 (ix3 k d o) := by
  unfold wtw
  rw [dif_pos (by omega)]
  congr 1
  funext a
  apply Fin.ext
  match a with
  | ⟨0, _⟩ => show (y 1).val / 256 = k.val; omega
  | ⟨1, _⟩ => show (y 1).val % 256 = d.val; omega
  | ⟨2, _⟩ => exact h0

theorem wtw_small (x3 : Vec Ideal S27x320x384 .fp8e4m3) (y : S384x8704.Idx) (k : Fin 27) (d : Fin 320) (o : Fin 384) (hd : 256 ≤ d.val)
    (h0 : (y 0).val = o.val) (h1 : (y 1).val = 6912 + 64 * k.val + (d.val - 256)) : wtw x3 y = x3 (ix3 k d o) := by
  unfold wtw
  rw [dif_neg (by omega), dif_pos (by omega)]
  congr 1
  funext a
  apply Fin.ext
  match a with
  | ⟨0, _⟩ => show ((y 1).val - 6912) / 64 = k.val; omega
  | ⟨1, _⟩ => show 256 + ((y 1).val - 6912) % 64 = d.val; omega
  | ⟨2, _⟩ => exact h0

/-- A pair of offsets' remaining rows, side by side, -/
theorem wt_pair (x3 : Vec Ideal S27x320x384 .fp8e4m3) (col : ℕ) (k0 k1 : Fin 27) (v0 v1 : Vec Ideal S1x64x384 .fp8e4m3)
    (hk0 : col = 6912 + 64 * k0.val) (hk1 : k1.val = k0.val + 1)
    (hv0 : ∀ (d : Fin 64) (o : Fin 384), v0 (ix3 0 d o) = x3 (ix3 k0 ⟨256 + d.val, by omega⟩ o))
    (hv1 : ∀ (d : Fin 64) (o : Fin 384), v1 (ix3 0 d o) = x3 (ix3 k1 ⟨256 + d.val, by omega⟩ o))
    (hsc : _) (ht : _) (hc : Shape.Concatenates [S64x384, S64x384] S128x384 0) (hs0 : _) (hs1 : _) (hb : _)
    (hin : ∀ a, ![0, col] a + S384x128.size a ≤ S384x8704.size a) (x : S384x128.Idx) :
    shapeCast S384x128 (transpose S384x128 [1, 0] (extf .bf16 (concatenate S128x384 0 [⟨S64x384, shapeCast S64x384 v0 hs0⟩, ⟨S64x384, shapeCast S64x384 v1 hs1⟩] hc : FVec Ideal S128x384 .fp8e4m3) hb) ht) hsc x
      = wtw x3 ((Rect.unit (s := S384x8704) ![0, col] S384x128.size hin).emb x) := by
  obtain ⟨o, d, rfl⟩ : ∃ (o : Fin 384) (d : Fin 128), x = ix2 o d := ⟨x 0, x 1, eq_ix2 x⟩
  pointwise
  by_cases h : d.val < 64
  · rw [dif_pos h, hv0, wtw_small x3 _ k0 ⟨256 + d.val, by omega⟩ o (by show 256 ≤ 256 + d.val; omega) (by show 0 + 1 * o.val = o.val; omega)
      (by show col + 1 * d.val = 6912 + 64 * k0.val + (256 + d.val - 256); omega)]
  · rw [dif_neg h, hv1, wtw_small x3 _ k1 ⟨256 + (d.val - 64), by omega⟩ o (by show 256 ≤ 256 + (d.val - 64); omega) (by show 0 + 1 * o.val = o.val; omega)
      (by show col + 1 * d.val = 6912 + 64 * k1.val + (256 + (d.val - 64) - 256); omega)]

/-- the last offset's, -/
theorem wt_last (x3 : Vec Ideal S27x320x384 .fp8e4m3) (v : Vec Ideal S1x64x384 .fp8e4m3)
    (hv : ∀ (d : Fin 64) (o : Fin 384), v (ix3 0 d o) = x3 (ix3 26 ⟨256 + d.val, by omega⟩ o))
    (hin : ∀ a, ![0, 8576] a + S384x64.size a ≤ S384x8704.size a) (x : S384x64.Idx) :
    k0_pay290 v x = wtw x3 ((Rect.unit (s := S384x8704) ![0, 8576] S384x64.size hin).emb x) := by
  obtain ⟨o, d, rfl⟩ : ∃ (o : Fin 384) (d : Fin 64), x = ix2 o d := ⟨x 0, x 1, eq_ix2 x⟩
  pointwise [k0_pay290]
  rw [hv, wtw_small x3 _ 26 ⟨256 + d.val, by omega⟩ o (by show 256 ≤ 256 + d.val; omega) (by show 0 + 1 * o.val = o.val; omega)
    (by show 8576 + 1 * d.val = 6912 + 64 * 26 + (256 + d.val - 256); omega)]

/-- and an offset's first 256 rows. -/
theorem wt_big (x3 : Vec Ideal S27x320x384 .fp8e4m3) (off : Fin 2 → ℕ) (k : Fin 27) (hoff : off = ![0, 256 * k.val]) (v : Vec Ideal S1x320x384 .fp8e4m3)
    (hv : ∀ (d : Fin 320) (o : Fin 384), v (ix3 0 d o) = x3 (ix3 k d o))
    (hin : ∀ a, off a + S384x256.size a ≤ S384x8704.size a) (x : S384x256.Idx) :
    k0_pay273 v x = wtw x3 ((Rect.unit (s := S384x8704) off S384x256.size hin).emb x) := by
  subst hoff
  obtain ⟨o, d, rfl⟩ : ∃ (o : Fin 384) (d : Fin 256), x = ix2 o d := ⟨x 0, x 1, eq_ix2 x⟩
  pointwise [k0_pay273]
  rw [hv, wtw_big x3 _ k ⟨d.val, by omega⟩ o d.isLt (by show 0 + 1 * o.val = o.val; omega)
    (by show 256 * k.val + 1 * d.val = 256 * k.val + d.val; omega)]

theorem off1_eq' : ∀ k : Fin k0_t1_loop.trips, k0_off1 k = ![k.val, 0, 0] := by decide +kernel
theorem off2_eq' : ∀ k : Fin k0_t1_loop.trips, k0_off2 k = ![0, 256 * k.val] := by decide +kernel

/-- A load of `m` rows of one offset's weights. -/
theorem load_w (arg3 : Memref sig .tc .vmem S27x320x384 .fp8e4m3) (f : BufTy.Contents (Elt Ideal) arg3.view.ty) {m : ℕ} (off : Fin 3 → ℕ)
    (h : ∀ a, off a + (⟨3, ![1, m, 384]⟩ : Shape).size a ≤ S27x320x384.size a) (k : Fin 27) (h0 : off 0 = k.val) (h2 : off 2 = 0)
    (d : Fin m) (o : Fin 384) (d' : Fin 320) (hd : d'.val = off 1 + d.val) :
    arg3.view.readAt (Elt Ideal) (Rect.unit (s := S27x320x384) off (⟨3, ![1, m, 384]⟩ : Shape).size h).toLoadRect f (ix3 0 d o)
      = arg3.view.read (Elt Ideal) f (ix3 k d' o) := by
  rw [View.readAt_apply]
  congr 1
  funext a
  apply Fin.ext
  match a with
  | ⟨0, _⟩ => show off 0 + 1 * 0 = k.val; omega
  | ⟨1, _⟩ => show off 1 + 1 * d.val = d'.val; omega
  | ⟨2, _⟩ => show off 2 + 1 * o.val = o.val; omega

/-- A load of one batch. -/
theorem load_b {e : EltTy} {n m : ℕ} (arg : Memref sig .tc .vmem ⟨3, ![2, n, m]⟩ e) (f : BufTy.Contents (Elt Ideal) arg.view.ty) (off : Fin 3 → ℕ)
    (h : ∀ a, off a + (⟨3, ![1, n, m]⟩ : Shape).size a ≤ (⟨3, ![2, n, m]⟩ : Shape).size a) (b : Fin 2) (h0 : off 0 = b.val) (h1 : off 1 = 0) (h2 : off 2 = 0)
    (r : Fin n) (d : Fin m) :
    arg.view.readAt (Elt Ideal) (Rect.unit (s := ⟨3, ![2, n, m]⟩) off (⟨3, ![1, n, m]⟩ : Shape).size h).toLoadRect f (ix3 0 r d)
      = arg.view.read (Elt Ideal) f (ix3 b r d) := by
  rw [View.readAt_apply]
  congr 1
  funext a
  apply Fin.ext
  match a with
  | ⟨0, _⟩ => show off 0 + 1 * 0 = b.val; omega
  | ⟨1, _⟩ => show off 1 + 1 * r.val = r.val; omega
  | ⟨2, _⟩ => show off 2 + 1 * d.val = d.val; omega

section
variable (c : Dev nD)
  (arg0 : Memref sig .tc .vmem S2x896x320 .i8) (harg0 : arg0.IsWhole)
  (arg1 : Memref sig .tc .vmem S2x7x1x128 .f32) (harg1 : arg1.IsWhole)
  (arg2 : Memref sig .tc .vmem S2x896x27 .i32) (harg2 : arg2.IsWhole)
  (arg3 : Memref sig .tc .vmem S27x320x384 .fp8e4m3) (harg3 : arg3.IsWhole)
  (arg4 : Memref sig .tc .vmem S1x384 .f32) (harg4 : arg4.IsWhole)
  (arg5 : Memref sig .tc .vmem S1x384 .f32) (harg5 : arg5.IsWhole)
  (arg6 : Memref sig .tc .vmem S2x896x384 .bf16) (harg6 : arg6.IsWhole)
  (arg7 : Memref sig .tc .vmem S2x896x384 .fp8e4m3) (harg7 : arg7.IsWhole)
  (arg8 : Memref sig .tc .vmem S2x7x1x128 .f32) (harg8 : arg8.IsWhole)
  (arg9 : Memref sig .tc .vmem S2x7x80x128 .i32) (harg9 : arg9.IsWhole)
  (arg10 : Memref sig .tc .vmem S2x7x27x128 .i32) (harg10 : arg10.IsWhole)
  (arg11 : Memref sig .tc .vmem S384x8704 .bf16) (harg11 : arg11.IsWhole)
  (arg12 : Memref sig .tc .vmem S8704x256 .bf16) (harg12 : arg12.IsWhole)
  (arg13 : Memref sig .tc .vmem S384x256 .f32) (harg13 : arg13.IsWhole)

theorem loop1_pieces (v231 : IVec S27x896 32) (v252 : IVec S27x128 32) (v253 : Vec Ideal S1x1x27x128 .i32) (X3 : BufTy.Contents (Elt Ideal) arg3.view.ty) : ∀ n : ℕ, n ≤ k0_t1_loop.trips →
    ∀ p ∈ pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 v231 v252 v253 X3 n, ∀ x,
      p.2 x = wtw (arg3.view.read (Elt Ideal) X3) (p.1.emb x) := by
  intro n
  induction n with
  | zero => intro _ p hp; unfold pb_k0_t1 at hp; exact absurd hp List.not_mem_nil
  | succ n ih =>
    intro hn p hp
    have := pb_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 v231 v252 v253 X3 ⟨n, hn⟩
    rw [this] at hp
    rcases List.mem_append.mp hp with hp | hp
    · unfold tripL_k0_t1 trip_k0_t1 at hp
      rcases List.mem_singleton.mp hp with rfl
      intro x
      exact wt_big _ _ ⟨n, hn⟩ (off2_eq' ⟨n, hn⟩) _ (fun d o => load_w arg3 X3 _ _ ⟨n, hn⟩ (by rw [off1_eq']; rfl) (by rw [off1_eq']; rfl) d o d
        (by rw [off1_eq']; show d.val = 0 + d.val; omega)) (k0_off2_inb ⟨n, hn⟩) x
    · exact ih (by omega) p hp

theorem loop1_covers (v231 : IVec S27x896 32) (v252 : IVec S27x128 32) (v253 : Vec Ideal S1x1x27x128 .i32) (X3 : BufTy.Contents (Elt Ideal) arg3.view.ty) (y : S384x8704.Idx) : ∀ n : ℕ, n ≤ k0_t1_loop.trips → (y 1).val / 256 < n →
    ∃ p ∈ pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 v231 v252 v253 X3 n, y ∈ p.1.set := by
  intro n
  induction n with
  | zero => intro _ h; omega
  | succ n ih =>
    intro hn h
    have := pb_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 v231 v252 v253 X3 ⟨n, hn⟩
    rw [this]
    by_cases h' : (y 1).val / 256 < n
    · obtain ⟨p, hp, hy⟩ := ih (by omega) h'
      exact ⟨p, List.mem_append_right _ hp, hy⟩
    · have hy0 : (y 0).val < 384 := (y 0).isLt
      refine ⟨_, List.mem_append_left _ (by unfold tripL_k0_t1 trip_k0_t1; exact List.mem_singleton.mpr rfl), ?_⟩
      refine (LoadRect.mem_set _).mpr fun a => ?_
      match a with
      | ⟨0, _⟩ => exact ⟨(y 0).val, hy0, by show (y 0).val = k0_off2 ⟨n, hn⟩ 0 + 1 * _; rw [off2_eq']; show _ = 0 + 1 * _; omega⟩
      | ⟨1, _⟩ => exact ⟨(y 1).val - 256 * n, by show (y 1).val - 256 * n < 256; omega, by show (y 1).val = k0_off2 ⟨n, hn⟩ 1 + 1 * _; rw [off2_eq']; show _ = 256 * n + 1 * _; omega⟩

end

/-- Pieces over one piece over pieces: where the middle one does not reach, the outer two decide. -/
theorem read_writes_layers {sig : RefSig} {κ : Kind} {sp : Space} {s : Shape} {e : EltTy} (v : View sig κ sp s e) (f : BufTy.Contents (Elt Ideal) v.ty)
    (G : s.Idx → Elt Ideal e) (A B : List (View.Piece (Elt Ideal) s e)) (Z : View.Piece (Elt Ideal) s e) (hA : ∀ p ∈ A, ∀ x, p.2 x = G (p.1.emb x))
    (hB : ∀ p ∈ B, ∀ x, p.2 x = G (p.1.emb x)) (y : s.Idx)
    (hy : (∃ p ∈ A, y ∈ p.1.set) ∨ (y ∉ Z.1.set ∧ ∃ p ∈ B, y ∈ p.1.set)) : v.read (Elt Ideal) (v.writes (Elt Ideal) f (A ++ Z :: B)) y = G y := by
  rw [View.writes_append]
  refine read_writes_of_pieces v _ G A hA y (hy.imp_right fun ⟨hz, hb⟩ => ?_)
  exact (View.read_writes_apply_of_forall_not_mem v (v.writes (Elt Ideal) f B) y [Z] (fun p hp => by rcases List.mem_singleton.mp hp with rfl; exact hz)).trans
    (read_writes_of_pieces v f G B hB y (Or.inl hb))

theorem mem_cols {n : ℕ} (c : ℕ) (h : ∀ a, ![0, c] a + (⟨2, ![384, n]⟩ : Shape).size a ≤ S384x8704.size a) (y : S384x8704.Idx) :
    y ∈ (Rect.unit (s := S384x8704) ![0, c] (⟨2, ![384, n]⟩ : Shape).size h).set ↔ c ≤ (y 1).val ∧ (y 1).val < c + n := by
  rw [Rect.mem_set_unit]
  have hy0 : (y 0).val < 384 := (y 0).isLt
  constructor
  · intro h
    exact h 1
  · intro h a
    match a with
    | ⟨0, _⟩ => exact ⟨Nat.zero_le _, by show (y 0).val < 0 + 384; omega⟩
    | ⟨1, _⟩ => exact h

/-- A piece of the remaining rows, over pieces of the earlier ones. -/
theorem wt_over {n : ℕ} (v : View sig .tc .vmem S384x8704 .bf16) (f : BufTy.Contents (Elt Ideal) v.ty) (X : Vec Ideal S384x8704 .bf16) (c : ℕ)
    (h : ∀ a, ![0, c] a + (⟨2, ![384, n]⟩ : Shape).size a ≤ S384x8704.size a) (w : (⟨2, ![384, n]⟩ : Shape).Idx → Elt Ideal .bf16)
    (L : List (View.Piece (Elt Ideal) S384x8704 .bf16)) (y : S384x8704.Idx) (hy : (y 1).val < c + n)
    (hw : ∀ x, w x = X ((Rect.unit (s := S384x8704) ![0, c] (⟨2, ![384, n]⟩ : Shape).size h).emb x))
    (hL : (y 1).val < c → v.read (Elt Ideal) (v.writes (Elt Ideal) f L) y = X y) :
    v.read (Elt Ideal) (v.writes (Elt Ideal) f (⟨Rect.unit (s := S384x8704) ![0, c] (⟨2, ![384, n]⟩ : Shape).size h, w⟩ :: L)) y = X y := by
  rw [show ∀ p : View.Piece (Elt Ideal) S384x8704 .bf16, p :: L = [p] ++ L from fun _ => rfl, View.writes_append]
  refine read_writes_of_pieces v _ X [_] (fun p hp => by rcases List.mem_singleton.mp hp with rfl; exact hw) y ?_
  by_cases hc : (y 1).val < c
  · exact Or.inr (hL hc)
  · exact Or.inl ⟨_, List.mem_singleton.mpr rfl, (mem_cols c h y).mpr ⟨by omega, hy⟩⟩

/-- The pair of the offsets `a` and `a + 1`, as it is loaded. -/
theorem wt_pair_load (arg3 : Memref sig .tc .vmem S27x320x384 .fp8e4m3) (f : BufTy.Contents (Elt Ideal) arg3.view.ty) (col a0 a1 : ℕ)
    (hcol : col = 6912 + 64 * a0) (ha : a1 = a0 + 1) (h27 : a1 < 27)
    (h0 : ∀ a, ![a0, 256, 0] a + S1x64x384.size a ≤ S27x320x384.size a) (h1 : ∀ a, ![a1, 256, 0] a + S1x64x384.size a ≤ S27x320x384.size a)
    (hsc : _) (ht : _) (hc : Shape.Concatenates [S64x384, S64x384] S128x384 0) (hs0 : _) (hs1 : _) (hb : _)
    (hin : ∀ a, ![0, col] a + S384x128.size a ≤ S384x8704.size a) (x : S384x128.Idx) :
    shapeCast S384x128 (transpose S384x128 [1, 0] (extf .bf16 (concatenate S128x384 0
        [⟨S64x384, shapeCast S64x384 (arg3.view.readAt (Elt Ideal) (Rect.unit (s := S27x320x384) ![a0, 256, 0] S1x64x384.size h0).toLoadRect f) hs0⟩,
         ⟨S64x384, shapeCast S64x384 (arg3.view.readAt (Elt Ideal) (Rect.unit (s := S27x320x384) ![a1, 256, 0] S1x64x384.size h1).toLoadRect f) hs1⟩] hc : FVec Ideal S128x384 .fp8e4m3) hb) ht) hsc x
      = wtw (arg3.view.read (Elt Ideal) f) ((Rect.unit (s := S384x8704) ![0, col] S384x128.size hin).emb x) :=
  wt_pair _ col ⟨a0, by omega⟩ ⟨a1, h27⟩ _ _ hcol ha (fun d o => load_w arg3 f _ _ ⟨a0, by omega⟩ rfl rfl d o _ rfl)
    (fun d o => load_w arg3 f _ _ ⟨a1, h27⟩ rfl rfl d o _ rfl) hsc ht hc hs0 hs1 hb hin x

/-! ## The results -/

/-- Where the gathered matrix is zero the weights do not matter. -/
theorem yv_congr (x1 : Vec Ideal S2x7x1x128 .f32) (x9 : Vec Ideal S2x7x80x128 .i32) (x10 : Vec Ideal S2x7x27x128 .i32) (x11 x11' : Vec Ideal S384x8704 .bf16)
    (x6 : Vec Ideal S2x896x384 .bf16) (v404 v407 : FVec Ideal S384x1 .f32) (h : ∀ y : S384x8704.Idx, (y 1).val < 8640 → x11 y = x11' y) :
    yv x1 x9 x10 x11 x6 v404 v407 = yv x1 x9 x10 x11' x6 v404 v407 := by
  funext b s l o
  unfold yv
  rw [Finset.sum_congr rfl fun p _ => ?_]
  by_cases hp : p.val < 8640
  · rw [h (ix2 o p) hp]
  · have : asm x1 x9 x10 b s p l = 0 := by
      unfold asm
      rw [dif_neg (by omega), dif_neg (by omega)]
    rw [this, mul_zero, mul_zero]

/-- After the tile loop the two results are those of the operands. -/
theorem finish (x1 : Vec Ideal S2x7x1x128 .f32) (x9 : Vec Ideal S2x7x80x128 .i32) (x10 : Vec Ideal S2x7x27x128 .i32) (x11 x11' : Vec Ideal S384x8704 .bf16)
    (x6 : Vec Ideal S2x896x384 .bf16) (v404 v407 : FVec Ideal S384x1 .f32) (v404' v407' : FVec Ideal S384x1 .f32) (x9' : Vec Ideal S2x7x80x128 .i32) (x10' : Vec Ideal S2x7x27x128 .i32)
    (pad : Prop) (hp : pad) (h9 : x9 = x9') (h10 : x10 = x10') (h4 : v404 = v404') (h5 : v407 = v407') (r7 : Vec Ideal S2x896x384 .fp8e4m3) (r8 : Vec Ideal S2x7x1x128 .f32) (k : ℕ) (hk : k = 7)
    (h7 : True = afterFirst k (Done7 pad (out7 x1 x9 x10 x11 x6 v404 v407) r7 k)) (h8 : True = afterFirst k (Done8 pad (out8 x1 x9 x10 x11 x6 v404 v407) r8 k))
    (h : ∀ y : S384x8704.Idx, (y 1).val < 8640 → x11 y = x11' y) :
    r7 = out7 x1 x9' x10' x11' x6 v404' v407' ∧ r8 = out8 x1 x9' x10' x11' x6 v404' v407' := by
  subst h9 h10 h4 h5 hk
  have e := yv_congr x1 x9 x10 x11 x11' x6 v404 v407 h
  have e7 : out7 x1 x9 x10 x11 x6 v404 v407 = out7 x1 x9 x10 x11' x6 v404 v407 := by
    unfold out7 av; rw [e]
  have e8 : out8 x1 x9 x10 x11 x6 v404 v407 = out8 x1 x9 x10 x11' x6 v404 v407 := by
    unfold out8 av; rw [e]
  constructor
  · rw [← e7]
    funext y
    have y0 : (y 0).val < 2 := (y 0).isLt
    have y1 : (y 1).val < 896 := (y 1).isLt
    exact afterFirst_iff (fun h => absurd h (by omega)) h7 hp y (by omega)
  · rw [← e8]
    funext y
    have y0 : (y 0).val < 2 := (y 0).isLt
    have y1 : (y 1).val < 7 := (y 1).isLt
    exact afterFirst_iff (fun h => absurd h (by omega)) h8 hp y (by omega)

/-- The rows of padding as they are filled. -/
theorem pad_zero (arg12 : Memref sig .tc .vmem S8704x256 .bf16) (f : BufTy.Contents (Elt Ideal) arg12.view.ty) (h : ∀ a, ![8640, 0] a + S64x256.size a ≤ S8704x256.size a) :
    PadZero (arg12.view.read (Elt Ideal) (arg12.view.writes (Elt Ideal) f [⟨Rect.unit (s := S8704x256) ![8640, 0] S64x256.size h, k0_pay1 (F := Ideal) k0_pay293⟩])) := by
  intro y hy
  have y0 : (y 0).val < 8704 := (y 0).isLt
  refine read_writes_of_pieces arg12.view f (fun _ => (0 : EReal)) [_] (fun p hp x => ?_) y (Or.inl ⟨_, List.mem_singleton.mpr rfl, (LoadRect.mem_set _).mpr fun a => ?_⟩)
  · rcases List.mem_singleton.mp hp with rfl
    obtain ⟨i, j, rfl⟩ : ∃ (i : Fin 64) (j : Fin 256), x = ix2 i j := ⟨x 0, x 1, eq_ix2 x⟩
    show k0_pay1 (F := Ideal) k0_pay293 (ix2 i j) = 0
    pointwise [k0_pay1, k0_pay293]
  · match a with
    | ⟨0, _⟩ => exact ⟨(y 0).val - 8640, by show (y 0).val - 8640 < 64; omega, by show (y 0).val = 8640 + 1 * _; omega⟩
    | ⟨1, _⟩ => exact ⟨(y 1).val, (y 1).isLt, by show (y 1).val = 0 + 1 * _; omega⟩

end Cert.Proof.KernelIdeal

end
-- ==== Proof.Body.lean ====
/- The body's triple with what it stores. -/
module

public import proofs.«01_k».proof.Proof.Pack
public import Idealize.ShloMosaic.Lib.Ring

@[expose] public section

set_option maxRecDepth 65536

noncomputable section

namespace Cert.Proof.KernelIdealValue

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 4000000 in
/-- The kernel body on whole memories: the inputs are kept, and the two results end at `out7` and `out8`. -/
theorem sound_kernel (c : Dev nD)
    (arg0 : Memref sig .tc .vmem S2x896x320 .i8) (harg0 : arg0.IsWhole)
    (arg1 : Memref sig .tc .vmem S2x7x1x128 .f32) (harg1 : arg1.IsWhole)
    (arg2 : Memref sig .tc .vmem S2x896x27 .i32) (harg2 : arg2.IsWhole)
    (arg3 : Memref sig .tc .vmem S27x320x384 .fp8e4m3) (harg3 : arg3.IsWhole)
    (arg4 : Memref sig .tc .vmem S1x384 .f32) (harg4 : arg4.IsWhole)
    (arg5 : Memref sig .tc .vmem S1x384 .f32) (harg5 : arg5.IsWhole)
    (arg6 : Memref sig .tc .vmem S2x896x384 .bf16) (harg6 : arg6.IsWhole)
    (arg7 : Memref sig .tc .vmem S2x896x384 .fp8e4m3) (harg7 : arg7.IsWhole)
    (arg8 : Memref sig .tc .vmem S2x7x1x128 .f32) (harg8 : arg8.IsWhole)
    (arg9 : Memref sig .tc .vmem S2x7x80x128 .i32) (harg9 : arg9.IsWhole)
    (arg10 : Memref sig .tc .vmem S2x7x27x128 .i32) (harg10 : arg10.IsWhole)
    (arg11 : Memref sig .tc .vmem S384x8704 .bf16) (harg11 : arg11.IsWhole)
    (arg12 : Memref sig .tc .vmem S8704x256 .bf16) (harg12 : arg12.IsWhole)
    (arg13 : Memref sig .tc .vmem S384x256 .f32) (harg13 : arg13.IsWhole)
    (x0 : Vec Ideal S2x896x320 .i8) (x1 : Vec Ideal S2x7x1x128 .f32) (x2 : Vec Ideal S2x896x27 .i32) (x3 : Vec Ideal S27x320x384 .fp8e4m3) (x4 : Vec Ideal S1x384 .f32) (x5 : Vec Ideal S1x384 .f32) (x6 : Vec Ideal S2x896x384 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out7 x1 (xtw x0) (ntw x2) (wtw x3) x6 (k0_pay291 (F := Ideal) x4) (k0_pay292 (F := Ideal) x5)) ∗ owns (c : Thread nD τ) arg8 fullShare (out8 x1 (xtw x0) (ntw x2) (wtw x3) x6 (k0_pay291 (F := Ideal) x4) (k0_pay292 (F := Ideal) x5)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) Set.univ (cc0__kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6
  sl_exec
  sl_step
  have h9 : arg9.view.read (Elt Ideal) (arg9.view.writes (Elt Ideal) arg9.view.junk (sound_kernel.sl.H9_42 c arg0 f0)) = xtw (arg0.view.read (Elt Ideal) f0) := by
    have hv0 := load_b arg0 f0 ![0, 0, 0] inb_S2x896x320_S1x896x320_0_0_0 0 rfl rfl rfl
    have hv1 := load_b arg0 f0 ![1, 0, 0] inb_S2x896x320_S1x896x320_1_0_0 1 rfl rfl rfl
    have hrect : ∀ n : Fin 42, ((sound_kernel.sl.H9_42 c arg0 f0).get n).1.off = ![1 - n.val / 21, 6 - n.val % 7, 32 * (2 - n.val % 21 / 7), 0]
        ∧ ((sound_kernel.sl.H9_42 c arg0 f0).get n).1.size = ![1, 1, if n.val % 21 < 7 then 16 else 32, 128]
        ∧ ((sound_kernel.sl.H9_42 c arg0 f0).get n).1.stride = fun _ => 1 := by
      intro n
      fin_cases n <;> exact ⟨rfl, rfl, rfl⟩
    funext y
    refine View.read_writes_apply_of_pieces _ _ _ _ ?_ y ?_
    · unfold sound_kernel.sl.H9_42
      iterate 7 refine List.forall_mem_cons.mpr ⟨fun x => word_piece16 _ 1 _ hv1 _ _ _ _ _ (by rfl) (by rfl) (by rfl) (by decide) (by decide) (by decide) (by decide) (by decide) (by decide) (by decide) x, ?_⟩
      iterate 14 refine List.forall_mem_cons.mpr ⟨fun x => word_piece32 _ 1 _ hv1 _ _ _ _ _ (by rfl) (by rfl) (by rfl) (by decide) (by decide) (by decide) (by decide) (by decide) (by decide) (by decide) x, ?_⟩
      iterate 7 refine List.forall_mem_cons.mpr ⟨fun x => word_piece16 _ 0 _ hv0 _ _ _ _ _ (by rfl) (by rfl) (by rfl) (by decide) (by decide) (by decide) (by decide) (by decide) (by decide) (by decide) x, ?_⟩
      iterate 14 refine List.forall_mem_cons.mpr ⟨fun x => word_piece32 _ 0 _ hv0 _ _ _ _ _ (by rfl) (by rfl) (by rfl) (by decide) (by decide) (by decide) (by decide) (by decide) (by decide) (by decide) x, ?_⟩
      exact fun _ h => absurd h List.not_mem_nil
    · have y0 : (y 0).val < 2 := (y 0).isLt
      have y1 : (y 1).val < 7 := (y 1).isLt
      have y2 : (y 2).val < 80 := (y 2).isLt
      have y3 : (y 3).val < 128 := (y 3).isLt
      obtain ⟨n, hn⟩ : ∃ n : Fin 42, n.val = 21 * (1 - (y 0).val) + 7 * (2 - min 2 ((y 2).val / 32)) + (6 - (y 1).val) := ⟨⟨_, by omega⟩, rfl⟩
      obtain ⟨ho, hs, ht⟩ := hrect n
      refine ⟨_, List.get_mem (sound_kernel.sl.H9_42 c arg0 f0) n, (LoadRect.mem_set _).mpr fun a => ?_⟩
      rw [ho, hs, ht]
      match a with
      | ⟨0, _⟩ => exact ⟨0, by show 0 < 1; omega, by show (y 0).val = 1 - n.val / 21 + 1 * 0; omega⟩
      | ⟨1, _⟩ => exact ⟨0, by show 0 < 1; omega, by show (y 1).val = 6 - n.val % 7 + 1 * 0; omega⟩
      | ⟨2, _⟩ => exact ⟨(y 2).val - 32 * (2 - n.val % 21 / 7), by show _ < if n.val % 21 < 7 then 16 else 32; split <;> omega, by show (y 2).val = 32 * (2 - n.val % 21 / 7) + 1 * _; omega⟩
      | ⟨3, _⟩ => exact ⟨(y 3).val, y3, by show (y 3).val = 0 + 1 * _; omega⟩
  have h10 : arg10.view.read (Elt Ideal) (arg10.view.writes (Elt Ideal) arg10.view.junk (sound_kernel.sl.H10_14 c arg2 f2)) = ntw (arg2.view.read (Elt Ideal) f2) := by
    have hv0 := load_b arg2 f2 ![0, 0, 0] inb_S2x896x27_S1x896x27_0_0_0 0 rfl rfl rfl
    have hv1 := load_b arg2 f2 ![1, 0, 0] inb_S2x896x27_S1x896x27_1_0_0 1 rfl rfl rfl
    have hrect : ∀ n : Fin 14, ((sound_kernel.sl.H10_14 c arg2 f2).get n).1.off = ![1 - n.val / 7, 6 - n.val % 7, 0, 0]
        ∧ ((sound_kernel.sl.H10_14 c arg2 f2).get n).1.size = ![1, 1, 27, 128]
        ∧ ((sound_kernel.sl.H10_14 c arg2 f2).get n).1.stride = fun _ => 1 := by
      intro n
      fin_cases n <;> exact ⟨rfl, rfl, rfl⟩
    funext y
    refine View.read_writes_apply_of_pieces _ _ _ _ ?_ y ?_
    · unfold sound_kernel.sl.H10_14
      iterate 7 refine List.forall_mem_cons.mpr ⟨fun x => nbr_piece _ 1 _ hv1 _ _ _ (by rfl) (by rfl) (by decide) (by decide) (by decide) (by decide) (by decide) x, ?_⟩
      iterate 7 refine List.forall_mem_cons.mpr ⟨fun x => nbr_piece _ 0 _ hv0 _ _ _ (by rfl) (by rfl) (by decide) (by decide) (by decide) (by decide) (by decide) x, ?_⟩
      exact fun _ h => absurd h List.not_mem_nil
    · have y0 : (y 0).val < 2 := (y 0).isLt
      have y1 : (y 1).val < 7 := (y 1).isLt
      obtain ⟨n, hn⟩ : ∃ n : Fin 14, n.val = 7 * (1 - (y 0).val) + (6 - (y 1).val) := ⟨⟨_, by omega⟩, rfl⟩
      obtain ⟨ho, hs, ht⟩ := hrect n
      refine ⟨_, List.get_mem (sound_kernel.sl.H10_14 c arg2 f2) n, (LoadRect.mem_set _).mpr fun a => ?_⟩
      rw [ho, hs, ht]
      match a with
      | ⟨0, _⟩ => exact ⟨0, by show 0 < 1; omega, by show (y 0).val = 1 - n.val / 7 + 1 * 0; omega⟩
      | ⟨1, _⟩ => exact ⟨0, by show 0 < 1; omega, by show (y 1).val = 6 - n.val % 7 + 1 * 0; omega⟩
      | ⟨2, _⟩ => exact ⟨(y 2).val, (y 2).isLt, by show (y 2).val = 0 + 1 * _; omega⟩
      | ⟨3, _⟩ => exact ⟨(y 3).val, (y 3).isLt, by show (y 3).val = 0 + 1 * _; omega⟩
  have h4 : sound_kernel.sl.r_15 c arg4 f4 = k0_pay291 (F := Ideal) (arg4.view.read (Elt Ideal) f4) := by
    unfold sound_kernel.sl.r_15
    exact congrArg _ (load_whole arg4 _ _)
  have h5 : sound_kernel.sl.r_16 c arg5 f5 = k0_pay292 (F := Ideal) (arg5.view.read (Elt Ideal) f5) := by
    unfold sound_kernel.sl.r_16
    exact congrArg _ (load_whole arg5 _ _)
  have hfin := fun h => finish _ _ _ _ (wtw (arg3.view.read (Elt Ideal) f3)) _ _ _ _ _ _ _ _ (pad_zero arg12 f12 inb_S8704x256_S64x256_8640_0) h9 h10 h4 h5 _ _ _ rfl hL12 hL14 h
  obtain ⟨e7, e8⟩ := hfin (by
    intro y hy
    refine wt_over _ _ _ 8576 _ _ _ y hy ?_ fun hy => ?_
    · exact fun x => wt_last _ _ (fun d o => load_w arg3 f3 _ _ 26 rfl rfl d o _ rfl) _ x
    iterate 13
      refine wt_over _ _ _ _ _ _ _ y hy (fun x => wt_pair_load arg3 f3 _ _ _ (by rfl) (by rfl) (by decide) (by decide) (by decide) (by decide) (by decide) (by decide) (by decide) (by decide) (by decide) (by decide) x) fun hy => ?_
    refine read_writes_layers arg11.view f11 _ [] _ _ (fun _ h => absurd h List.not_mem_nil) (loop1_pieces c arg0 harg0 arg1 harg1 arg2 harg2 arg3 harg3 arg4 harg4 arg5 harg5 arg6 harg6 arg7 harg7 arg8 harg8 arg9 harg9 arg10 harg10 arg11 harg11 arg12 harg12 arg13 harg13 _ _ _ f3 _ le_rfl) y (Or.inr ⟨fun h => ?_, ?_⟩)
    · exact absurd ((mem_cols 6912 (by decide) y).mp h).1 (by omega)
    · exact loop1_covers c arg0 harg0 arg1 harg1 arg2 harg2 arg3 harg3 arg4 harg4 arg5 harg5 arg6 harg6 arg7 harg7 arg8 harg8 arg9 harg9 arg10 harg10 arg11 harg11 arg12 harg12 arg13 harg13 _ _ _ f3 y _ le_rfl (by show (y 1).val / 256 < 27; omega))
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact e7
  isplitl [H8]
  · iexists _; isplitr
    swap; · iexact H8
    ipureintro; exact e8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.Proof.KernelIdealValue
-- ==== Proof.KernelIdealValue.lean ====
/- The run of `KernelIdeal` over the extended reals with its values: the arrays of the two results end at the closed forms
   `out7` and `out8` of the argument arrays. -/
module

public import proofs.«01_k».proof.Proof.Body
public import Idealize.ShloMosaic.Adequacy
public import Idealize.ShloMosaic.Init
public import Idealize.ShloMosaic.Lib.Claim
public import Idealize.ShloMosaic.Lib.Pipeline.ValueKit

@[expose] public section

set_option maxRecDepth 65536

noncomputable section

namespace Cert.Proof.KernelIdealValue

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data of the one pipeline: an input's buffer keeps its block, each result's holds its closed form. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 1 t) (xtw (iblk m c 0 t)) (ntw (iblk m c 2 t)) (wtw (iblk m c 3 t)) (iblk m c 6 t) (k0_pay291 (F := Ideal) (iblk m c 4 t)) (k0_pay292 (F := Ideal) (iblk m c 5 t))
    | ⟨8, _⟩ => out8 (iblk m c 1 t) (xtw (iblk m c 0 t)) (ntw (iblk m c 2 t)) (wtw (iblk m c 3 t)) (iblk m c 6 t) (k0_pay291 (F := Ideal) (iblk m c 4 t)) (k0_pay292 (F := Ideal) (iblk m c 5 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem after0_7 (c : Dev nD) (t : Fin cfg0.N) : (dats m 0 c).after 7 t = out7 (iblk m c 1 t) (xtw (iblk m c 0 t)) (ntw (iblk m c 2 t)) (wtw (iblk m c 3 t)) (iblk m c 6 t) (k0_pay291 (F := Ideal) (iblk m c 4 t)) (k0_pay292 (F := Ideal) (iblk m c 5 t)) := by dsimp only [dats]
theorem after0_8 (c : Dev nD) (t : Fin cfg0.N) : (dats m 0 c).after 8 t = out8 (iblk m c 1 t) (xtw (iblk m c 0 t)) (ntw (iblk m c 2 t)) (wtw (iblk m c 3 t)) (iblk m c 6 t) (k0_pay291 (F := Ideal) (iblk m c 4 t)) (k0_pay292 (F := Ideal) (iblk m c 5 t)) := by dsimp only [dats]

/-- Each input's staging buffer holds its block when the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at the grid's point: the scratch buffers are taken out of the invariant and put back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  iintro ⟨⟨⟨⟨%g9, H9⟩, ⟨%g10, H10⟩, ⟨%g11, H11⟩, ⟨%g12, H12⟩, ⟨%g13, H13⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists g9; rw [owns_whole]; iexact H9
  isplitl [H10]; · iexists g10; rw [owns_whole]; iexact H10
  isplitl [H11]; · iexists g11; rw [owns_whole]; iexact H11
  isplitl [H12]; · iexists g12; rw [owns_whole]; iexact H12
  isplitl [H13]; · iexists g13; rw [owns_whole]; iexact H13
  iintro ⟨H0, H1, H2, H3, H4, H5, H6, H7, H8, ⟨%e9, H9⟩, ⟨%e10, H10⟩, ⟨%e11, H11⟩, ⟨%e12, H12⟩, ⟨%e13, H13⟩⟩
  simp only [owns_whole (c : Thread nD τ) cc0_scratch0, owns_whole (c : Thread nD τ) cc0_scratch1, owns_whole (c : Thread nD τ) cc0_scratch2,
    owns_whole (c : Thread nD τ) cc0_scratch3, owns_whole (c : Thread nD τ) cc0_scratch4]
  isplitl [H9 H10 H11 H12 H13 Hr]
  · isplitr [Hr]
    · isplitl [H9]; · iexists _; iexact H9
      isplitl [H10]; · iexists _; iexact H10
      isplitl [H11]; · iexists _; iexact H11
      isplitl [H12]; · iexists _; iexact H12
      iexists _; iexact H13
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row is the body. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends as the proof data say, and every counter at zero. -/
theorem run_quiet : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := Ideal))) (s₀ m ρ) (Pipeline.FramePost cfgs (dats m) 0 (V m)) :=
  (θ_run defs _ _).mono (fun _ h => h.1) (run_quiet m ρ)

/-- The frame: every argument array is as it was, and every counter reads zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).1 6).trans (((dats m 0 c).arrAt_in 6 rfl _).trans ((A_eq m c 6).trans (V_main_arg6 m c)))⟩, h.2⟩) (run_quiet m ρ)

/-! ## The two result arrays -/

/-- The first result array: the codes. -/
theorem final7 (c : Dev nD) : (dats m 0 c).arrAt 7 (cfgs 0).N = out7 (iblk m c 1 t0_0) (xtw (iblk m c 0 t0_0)) (ntw (iblk m c 2 t0_0)) (wtw (iblk m c 3 t0_0)) (iblk m c 6 t0_0) (k0_pay291 (F := Ideal) (iblk m c 4 t0_0)) (k0_pay292 (F := Ideal) (iblk m c 5 t0_0)) := by
  refine (dats m 0 c).arrAt_eq_of_after_last 7 t0_0 (by decide +kernel) _ fun j => ?_
  blk_simp
  rw [after0_7]

/-- The second result array: the scales. -/
theorem final8 (c : Dev nD) : (dats m 0 c).arrAt 8 (cfgs 0).N = out8 (iblk m c 1 t0_0) (xtw (iblk m c 0 t0_0)) (ntw (iblk m c 2 t0_0)) (wtw (iblk m c 3 t0_0)) (iblk m c 6 t0_0) (k0_pay291 (F := Ideal) (iblk m c 4 t0_0)) (k0_pay292 (F := Ideal) (iblk m c 5 t0_0)) := by
  refine (dats m 0 c).arrAt_eq_of_after_last 8 t0_0 (by decide +kernel) _ fun j => ?_
  blk_simp
  rw [after0_8]

end Cert.Proof.KernelIdealValue

end
-- ==== Proof.Quant.lean ====
/- The quantiser. The kernel finds a row's exponent by counting the powers of two the row's scaled maximum reaches and builds
   the two scales from the count as words; the reference takes the floor of a logarithm. `scaleOf_eq` and `invOf_eq` are
   the two ways agreeing on every nonnegative extended real. -/
module

public import proofs.«01_k».proof.Proof.Step
public import Idealize.ShloMosaic.Lib.IdealHost

@[expose] public section

noncomputable section

namespace Cert.Proof.KernelIdeal

open Idealize.ShloMosaic

/-- The word whose exponent field is `n` and whose other fields are zero denotes a power of two. -/
theorem pow_bits (n : ℕ) (h1 : 1 ≤ n) (h2 : n ≤ 254) :
    Ideal.ofBits .f32 (IntOp.shli ArithUnit.vector (BitVec.ofNat 32 n) 23#32) = (((2 : ℝ) ^ ((n : ℤ) - 127) : ℝ) : EReal) := by
  have key : ∀ n : Fin 255, (BitVec.extractLsb' 31 1 (IntOp.shli ArithUnit.vector (BitVec.ofNat 32 n.val) 23#32) == 1#1) = false
      ∧ (BitVec.extractLsb' 23 8 (IntOp.shli ArithUnit.vector (BitVec.ofNat 32 n.val) 23#32)).toNat = n.val
      ∧ (BitVec.extractLsb' 0 23 (IntOp.shli ArithUnit.vector (BitVec.ofNat 32 n.val) 23#32)).toNat = 0 := by decide +kernel
  obtain ⟨k1, k2, k3⟩ := key ⟨n, by omega⟩
  show Ideal.ieee 8 23 _ = _
  unfold Ideal.ieee
  dsimp only
  dsimp only at k1 k2 k3
  rw [show (8 + 23 : ℕ) = 31 from rfl, k1, k2, k3]
  rw [if_neg (by omega), if_neg (by omega)]
  refine congrArg Real.toEReal ?_
  have e : ((n : ℤ) - (2 ^ (8 - 1) - 1) - ((23 : ℕ) : ℤ)) = ((n : ℤ) - 127) + (-23 : ℤ) := by norm_num; omega
  rw [e, zpow_add₀ (by norm_num : (2 : ℝ) ≠ 0)]
  norm_num
  ring

/-- Counting the numbers below `T`. -/
theorem fold_count : ∀ T : Fin 247, Finset.fold IntOp.addi (0#32) (fun x : Fin 246 => BitVec.setWidth 32 (BitVec.ofBool (decide (x.val < T.val)))) Finset.univ
    = BitVec.ofNat 32 T.val := by decide +kernel

theorem word_up : ∀ T : Fin 247, IntOp.addi (IntOp.subi (BitVec.ofNat 32 T.val) 126#32) 127#32 = BitVec.ofNat 32 (T.val + 1) := by decide +kernel
theorem word_down : ∀ T : Fin 247, IntOp.subi 127#32 (IntOp.subi (BitVec.ofNat 32 T.val) 126#32) = BitVec.ofNat 32 (253 - T.val) := by decide +kernel
theorem word_next : ∀ x : Fin 246, IntOp.addi (BitVec.ofNat 32 x.val) 1#32 = BitVec.ofNat 32 (x.val + 1) := by decide +kernel

/-- The two scales of a row that reaches `T` powers of two. -/
theorem scale_of_count (a : EReal) (ha : a ≠ 0) (T : Fin 247)
    (hT : ∀ x : Fin 246, (((2 : ℝ) ^ (((x.val + 1 : ℕ) : ℤ) - 127) : ℝ) : EReal) ≤ a * Ideal.ofBits FTy.f32 991054117#32 ↔ x.val < T.val) :
    scaleOf a = (((2 : ℝ) ^ ((T.val : ℤ) - 126) : ℝ) : EReal) ∧ invOf a = (((2 : ℝ) ^ (126 - (T.val : ℤ)) : ℝ) : EReal) := by
  have he : ew a = IntOp.subi (BitVec.ofNat 32 T.val) 126#32 := by
    unfold ew
    rw [if_neg ha, ← fold_count T]
    congr 2
    funext x
    congr 2
    refine decide_eq_decide.mpr ?_
    rw [word_next, pow_bits _ (by omega) (by omega)]
    exact hT x
  constructor
  · unfold scaleOf
    rw [he, word_up, pow_bits _ (by omega) (by omega)]
    congr 2
    push_cast
    ring
  · unfold invOf
    rw [he, word_down, pow_bits _ (by omega) (by omega)]
    congr 2
    have := T.isLt
    omega

/-- The exponent as the reference takes it. -/
def refE (a : EReal) : EReal :=
  if a = 0 then 0
  else min (Ideal.ofBits .f32 0x42F00000#32) (max (Ideal.ofBits .f32 0xC2FC0000#32)
    (Ideal.liftRound Int.floor (Ideal.div (Ideal.log (a * Ideal.ofBits .f32 991054117#32)) (Ideal.log (Ideal.ofBits .f32 0x40000000#32)))
      + Ideal.ofBits .f32 0x3F800000#32))

theorem bits_120 : Ideal.ofBits .f32 0x42F00000#32 = ((120 : ℝ) : EReal) := by simp [Ideal.ofBits, Ideal.ieee, -EReal.coe_mul]; norm_num
theorem bits_m126 : Ideal.ofBits .f32 0xC2FC0000#32 = ((-126 : ℝ) : EReal) := by
  simp only [Ideal.ofBits, Ideal.ieee, show (BitVec.extractLsb' (8 + 23) 1 0xC2FC0000#32 == 1#1) = true by decide,
    show (BitVec.extractLsb' 23 8 0xC2FC0000#32).toNat = 133 by decide, show (BitVec.extractLsb' 0 23 0xC2FC0000#32).toNat = 8126464 by decide]
  rw [if_neg (by omega), if_neg (by omega)]
  refine congrArg Real.toEReal ?_
  norm_num
theorem bits_2 : Ideal.ofBits .f32 0x40000000#32 = ((2 : ℝ) : EReal) := by simp [Ideal.ofBits, Ideal.ieee, -EReal.coe_mul]; norm_num
theorem bits_1 : Ideal.ofBits .f32 0x3F800000#32 = ((1 : ℝ) : EReal) := by simp [Ideal.ofBits, Ideal.ieee, -EReal.coe_mul]; norm_num
theorem bits_c : ∃ c : ℝ, 0 < c ∧ Ideal.ofBits .f32 991054117#32 = (c : EReal) := by
  refine ⟨9586981 * 2 ^ (-32 : ℤ), by positivity, ?_⟩
  simp [Ideal.ofBits, Ideal.ieee, -EReal.coe_mul]
theorem log_2 : Ideal.log (Ideal.ofBits .f32 0x40000000#32) = ((Real.log 2 : ℝ) : EReal) := by
  rw [bits_2, Ideal.log_coe, if_neg (by norm_num)]

/-- A row's exponent is an integer, and the kernel's count is that exponent with its offset. -/
theorem count_exists (a : EReal) (h0 : 0 ≤ a) (ha : a ≠ 0) : ∃ T : Fin 247,
    (∀ x : Fin 246, (((2 : ℝ) ^ (((x.val + 1 : ℕ) : ℤ) - 127) : ℝ) : EReal) ≤ a * Ideal.ofBits FTy.f32 991054117#32 ↔ x.val < T.val)
      ∧ refE a = ((((T.val : ℤ) - 126 : ℤ) : ℝ) : EReal) := by
  obtain ⟨c, hc, ec⟩ := bits_c
  have hl : (0 : ℝ) < Real.log 2 := Real.log_pos (by norm_num)
  unfold refE
  rw [if_neg ha, bits_120, bits_m126, log_2, bits_1, ec]
  induction a using EReal.rec with
  | bot => exact absurd h0 (by simp)
  | top =>
    refine ⟨⟨246, by omega⟩, fun x => ⟨fun _ => x.isLt, fun _ => ?_⟩, ?_⟩
    · rw [EReal.top_mul_coe_of_pos hc]; exact le_top
    · rw [EReal.top_mul_coe_of_pos hc, Ideal.log_top]
      unfold Ideal.div
      rw [if_neg (by exact_mod_cast hl.ne'), ← EReal.coe_inv, EReal.top_mul_coe_of_pos (inv_pos.mpr hl), Ideal.liftRound_top, EReal.top_add_coe]
      norm_num
  | coe r =>
    have hr : 0 < r := lt_of_le_of_ne (by exact_mod_cast h0) (by intro h; exact ha (by rw [← h]; rfl))
    have hz : 0 < r * c := mul_pos hr hc
    rw [← EReal.coe_mul, Ideal.log_coe, if_neg (by linarith)]
    unfold Ideal.div
    rw [if_neg (by exact_mod_cast hl.ne'), ← EReal.coe_inv, ← EReal.coe_mul, Ideal.liftRound_coe]
    have hpow : ∀ k : ℤ, (2 : ℝ) ^ k ≤ r * c ↔ k ≤ ⌊Real.log (r * c) * (Real.log 2)⁻¹⌋ := fun k => by
      rw [Int.le_floor, ← div_eq_mul_inv, le_div_iff₀ hl, ← Real.log_zpow, Real.log_le_log_iff (by positivity) hz]
    generalize hF : ⌊Real.log (r * c) * (Real.log 2)⁻¹⌋ = F at hpow ⊢
    refine ⟨⟨(max 0 (min 246 (F + 127))).toNat, by omega⟩, fun x => ?_, ?_⟩
    · rw [EReal.coe_le_coe_iff, hpow]
      have := x.isLt
      show _ ↔ x.val < (max 0 (min 246 (F + 127))).toNat
      omega
    · show _ = ((((((max 0 (min 246 (F + 127))).toNat : ℕ) : ℤ) - 126 : ℤ) : ℝ) : EReal)
      rw [← EReal.coe_add, ← EReal.coe_strictMono.monotone.map_max, ← EReal.coe_strictMono.monotone.map_min]
      congr 1
      have : (((max 0 (min 246 (F + 127))).toNat : ℕ) : ℤ) - 126 = min 120 (max (-126) (F + 1)) := by omega
      rw [this]
      push_cast
      rfl

theorem refE_zero : refE 0 = 0 := if_pos rfl

/-- The two scales are the reference's. -/
theorem scaleOf_eq (a : EReal) (h0 : 0 ≤ a) : scaleOf a = Ideal.exp2 (refE a) := by
  by_cases ha : a = 0
  · subst ha
    rw [refE_zero]
    have : scaleOf 0 = (((2 : ℝ) ^ (((127 : ℕ) : ℤ) - 127) : ℝ) : EReal) := by
      unfold scaleOf ew
      rw [if_pos rfl]
      exact pow_bits 127 (by omega) (by omega)
    rw [this, show (0 : EReal) = ((0 : ℝ) : EReal) from rfl, Ideal.exp2_coe]
    norm_num
  · obtain ⟨T, hT, hE⟩ := count_exists a h0 ha
    rw [(scale_of_count a ha T hT).1, hE, Ideal.exp2_coe]
    congr 1
    exact (Real.rpow_intCast 2 _).symm

theorem invOf_eq (a : EReal) (h0 : 0 ≤ a) : invOf a = Ideal.exp2 (0 - refE a) := by
  by_cases ha : a = 0
  · subst ha
    rw [refE_zero]
    have : invOf 0 = (((2 : ℝ) ^ (((127 : ℕ) : ℤ) - 127) : ℝ) : EReal) := by
      unfold invOf ew
      rw [if_pos rfl]
      exact pow_bits 127 (by omega) (by omega)
    rw [this, sub_zero, show (0 : EReal) = ((0 : ℝ) : EReal) from rfl, Ideal.exp2_coe]
    norm_num
  · obtain ⟨T, hT, hE⟩ := count_exists a h0 ha
    rw [(scale_of_count a ha T hT).2, hE, show (0 : EReal) = ((0 : ℝ) : EReal) from rfl, ← EReal.coe_sub, Ideal.exp2_coe]
    congr 1
    rw [show (0 : ℝ) - (((T.val : ℤ) - 126 : ℤ) : ℝ) = ((126 - (T.val : ℤ) : ℤ) : ℝ) by push_cast; ring]
    exact (Real.rpow_intCast 2 _).symm

end Cert.Proof.KernelIdeal

end
-- ==== Proof.Spec.lean ====
/- The two results as functions of the argument arrays, and the kernel's closed forms `out7` and `out8` brought to them: the
   kernel's order of the contraction (27 blocks of 256 channels, then 27 of 64, then a padding of zeros) is summed in the
   reference's (27 blocks of 320). -/
module

public import proofs.«01_k».proof.Proof.Pack
public import proofs.«01_k».proof.Proof.Quant

@[expose] public section

noncomputable section

namespace Cert.Proof.KernelIdeal

open Idealize.ShloMosaic Cert.KernelIdeal Cert.KernelIdeal.Gen
open scoped BigOperators

/-- Voxel `l` of tile `s`. -/
def rowOf (s : Fin 7) (l : Fin 128) : Fin 896 := ⟨128 * s.val + l.val, by omega⟩

/-- The neighbour and the channel a contraction index of the reference names. -/
def nbrOf (q : Fin 8640) : Fin 27 := ⟨q.val / 320, by omega⟩
def chanOf (q : Fin 8640) : Fin 320 := ⟨q.val % 320, by omega⟩

section spec
variable (a0 : Vec Ideal S2x896x320 .i8) (a1 : Vec Ideal S2x896 .f32) (a2 : Vec Ideal S2x896x27 .i32) (a3 : Vec Ideal S27x320x384 .fp8e4m3)
  (a4 a5 : Vec Ideal S384 .f32) (a6 : Vec Ideal S2x896x384 .bf16)

/-- Channel `d` of the `k`-th neighbour of voxel `r` of batch `b`, dequantised; zero where there is no neighbour. -/
def gq (b : Fin 2) (r : Fin 896) (k : Fin 27) (d : Fin 320) : EReal :=
  if h : (a2 (ix3 b r k)).toNat < 896 then Ideal.ofBits .fp8e4m3 (a0 (ix3 b ⟨(a2 (ix3 b r k)).toNat, h⟩ d)) * a1 (ix2 b ⟨(a2 (ix3 b r k)).toNat, h⟩)
  else 0

/-- Output channel `o` of that voxel before it is quantised, -/
def yq (b : Fin 2) (r : Fin 896) (o : Fin 384) : EReal :=
  max ((∑ q : Fin 8640, gq a0 a1 a2 b r ⟨q.val / 320, by omega⟩ ⟨q.val % 320, by omega⟩ * a3 (ix3 ⟨q.val / 320, by omega⟩ ⟨q.val % 320, by omega⟩ o)) * a4 (ix1 o)
    + a5 (ix1 o) + a6 (ix3 b r o)) 0

/-- the largest of its channels, -/
def aq (b : Fin 2) (r : Fin 896) : EReal :=
  Finset.fold max (Ideal.ofBits FTy.f32 4286578688#32) (fun o => yq a0 a1 a2 a3 a4 a5 a6 b r o) Finset.univ

/-- its code -/
def res7 : Vec Ideal S2x896x384 .fp8e4m3 := fun y =>
  min (Ideal.ofBits FTy.f32 1138753536#32) (max (Ideal.ofBits FTy.f32 3286237184#32)
    (yq a0 a1 a2 a3 a4 a5 a6 (y 0) (y 1) (y 2) * Ideal.exp2 (0 - refE (aq a0 a1 a2 a3 a4 a5 a6 (y 0) (y 1)))))

/-- and the voxel's scale. -/
def res8 : Vec Ideal S2x7x1x128 .f32 := fun y =>
  Ideal.exp2 (refE (aq a0 a1 a2 a3 a4 a5 a6 (y 0) ⟨128 * (y 1).val + (y 3).val, by
    have h1 : (y 1).val < 7 := (y 1).isLt
    have h3 : (y 3).val < 128 := (y 3).isLt
    omega⟩))

theorem yq_nonneg (b : Fin 2) (r : Fin 896) (o : Fin 384) : 0 ≤ yq a0 a1 a2 a3 a4 a5 a6 b r o := le_max_right _ _

theorem aq_nonneg (b : Fin 2) (r : Fin 896) : 0 ≤ aq a0 a1 a2 a3 a4 a5 a6 b r :=
  (Finset.le_fold_max _).mpr (Or.inr ⟨⟨0, by omega⟩, Finset.mem_univ _, yq_nonneg a0 a1 a2 a3 a4 a5 a6 b r _⟩)

end spec

section kernel
variable (a0 : Vec Ideal S2x896x320 .i8) (a1 : Vec Ideal S2x896 .f32) (x1 : Vec Ideal S2x7x1x128 .f32) (a2 : Vec Ideal S2x896x27 .i32)
  (a3 : Vec Ideal S27x320x384 .fp8e4m3) (a4 a5 : Vec Ideal S384 .f32) (x4 x5 : Vec Ideal S1x384 .f32) (a6 : Vec Ideal S2x896x384 .bf16)
  (h1 : ∀ (b : Fin 2) (h : Fin 7) (l : Fin 128), x1 (ix4 b h 0 l) = a1 (ix2 b (rowOf h l)))
  (h4 : ∀ o : Fin 384, x4 (ix2 0 o) = a4 (ix1 o)) (h5 : ∀ o : Fin 384, x5 (ix2 0 o) = a5 (ix1 o))

include h1 in
/-- The kernel's gathered value is the dequantised neighbour. -/
theorem gk_eq (b : Fin 2) (s : Fin 7) (l : Fin 128) (k : Fin 27) (d : Fin 320) :
    gk x1 (xtw a0) (ntw a2) b s l k d = gq a0 a1 a2 b ⟨128 * s.val + l.val, by omega⟩ k d := by
  unfold gk gq
  have en : ntw a2 (ix4 b s k l) = a2 (ix3 b ⟨128 * s.val + l.val, by omega⟩ k) := rfl
  rw [en]
  generalize a2 (ix3 b ⟨128 * s.val + l.val, by omega⟩ k) = n
  unfold gsel
  by_cases h : n.toNat < 896
  · rw [dif_pos h, dif_pos h, dif_pos h]
    refine congr (congrArg HMul.hMul (congrArg (Ideal.ofBits FTy.fp8e4m3) ?_)) ?_
    · refine (xtw_byte a0 b ⟨n.toNat / 128, by omega⟩ ⟨n.toNat % 128, by omega⟩ d).trans (congrArg (fun r => a0 (ix3 b r d)) (Fin.ext ?_))
      show 128 * (n.toNat / 128) + n.toNat % 128 = n.toNat
      omega
    · refine (h1 b ⟨n.toNat / 128, by omega⟩ ⟨n.toNat % 128, by omega⟩).trans (congrArg (fun r => a1 (ix2 b r)) (Fin.ext ?_))
      show 128 * (n.toNat / 128) + n.toNat % 128 = n.toNat
      omega
  · rw [dif_neg h, dif_neg h, dif_neg h, mul_zero]

/-- Where the reference's contraction index stands in the kernel's order. -/
def place (q : Fin 8640) : Fin 8704 :=
  if h : q.val % 320 < 256 then ⟨256 * (q.val / 320) + q.val % 320, by omega⟩ else ⟨6912 + 64 * (q.val / 320) + (q.val % 320 - 256), by omega⟩

theorem place_injective : Function.Injective place := fun q q' e => by
  unfold place at e
  apply Fin.ext
  split at e <;> split at e <;> have := congrArg Fin.val e <;> dsimp only at this <;> omega

include h1 in
/-- The contraction, in the reference's order. -/
theorem sum_eq (b : Fin 2) (s : Fin 7) (l : Fin 128) (o : Fin 384) :
    ∑ p : Fin 8704, wtw a3 (ix2 o p) * asm x1 (xtw a0) (ntw a2) b s p l
      = ∑ q : Fin 8640, gq a0 a1 a2 b ⟨128 * s.val + l.val, by omega⟩ ⟨q.val / 320, by omega⟩ ⟨q.val % 320, by omega⟩
          * a3 (ix3 ⟨q.val / 320, by omega⟩ ⟨q.val % 320, by omega⟩ o) := by
  refine (Fintype.sum_of_injective place place_injective _ _ (fun p hp => ?_) fun q => ?_).symm
  · have hp' : 8640 ≤ p.val := by
      by_contra hlt
      refine hp ?_
      by_cases hb : p.val < 6912
      · refine ⟨⟨320 * (p.val / 256) + p.val % 256, by omega⟩, Fin.ext ?_⟩
        unfold place
        rw [dif_pos (by show (320 * (p.val / 256) + p.val % 256) % 320 < 256; omega)]
        show 256 * ((320 * (p.val / 256) + p.val % 256) / 320) + (320 * (p.val / 256) + p.val % 256) % 320 = p.val
        omega
      · refine ⟨⟨320 * ((p.val - 6912) / 64) + 256 + (p.val - 6912) % 64, by omega⟩, Fin.ext ?_⟩
        unfold place
        rw [dif_neg (by show ¬ (320 * ((p.val - 6912) / 64) + 256 + (p.val - 6912) % 64) % 320 < 256; omega)]
        show 6912 + 64 * ((320 * ((p.val - 6912) / 64) + 256 + (p.val - 6912) % 64) / 320) + ((320 * ((p.val - 6912) / 64) + 256 + (p.val - 6912) % 64) % 320 - 256) = p.val
        omega
    unfold asm
    rw [dif_neg (by omega), dif_neg (by omega), mul_zero]
  · by_cases hd : q.val % 320 < 256
    · have hv : (place q).val = 256 * (q.val / 320) + q.val % 320 := by unfold place; rw [dif_pos hd]
      rw [wtw_big a3 (ix2 o (place q)) ⟨q.val / 320, by omega⟩ ⟨q.val % 320, by omega⟩ o hd rfl hv, mul_comm]
      refine congrArg _ ?_
      rw [← gk_eq a0 a1 x1 a2 h1]
      unfold asm
      rw [dif_pos (by omega)]
      refine gk_congr _ _ _ _ _ rfl ?_ ?_
      · show q.val / 320 = (place q).val / 256; omega
      · show q.val % 320 = (place q).val % 256; omega
    · have hv : (place q).val = 6912 + 64 * (q.val / 320) + (q.val % 320 - 256) := by unfold place; rw [dif_neg hd]
      rw [wtw_small a3 (ix2 o (place q)) ⟨q.val / 320, by omega⟩ ⟨q.val % 320, by omega⟩ o (by show 256 ≤ q.val % 320; omega) rfl hv, mul_comm]
      refine congrArg _ ?_
      rw [← gk_eq a0 a1 x1 a2 h1]
      unfold asm
      rw [dif_neg (by omega), dif_pos (by omega)]
      refine gk_congr _ _ _ _ _ rfl ?_ ?_
      · show q.val / 320 = ((place q).val - 6912) / 64; omega
      · show q.val % 320 = 256 + ((place q).val - 6912) % 64; omega

include h1 h4 h5 in
theorem yv_eq (b : Fin 2) (s : Fin 7) (l : Fin 128) (o : Fin 384) :
    yv x1 (xtw a0) (ntw a2) (wtw a3) a6 (k0_pay291 (F := Ideal) x4) (k0_pay292 (F := Ideal) x5) b s l o
      = yq a0 a1 a2 a3 a4 a5 a6 b ⟨128 * s.val + l.val, by omega⟩ o := by
  unfold yv yq
  have e4 : k0_pay291 (F := Ideal) x4 (ix2 o 0) = a4 (ix1 o) := by
    rw [← h4]; pointwise [k0_pay291]
  have e5 : k0_pay292 (F := Ideal) x5 (ix2 o 0) = a5 (ix1 o) := by
    rw [← h5]; pointwise [k0_pay292]
  rw [e4, e5, sum_eq a0 a1 x1 a2 a3 h1]

include h1 h4 h5 in
theorem av_eq (b : Fin 2) (s : Fin 7) (l : Fin 128) :
    av x1 (xtw a0) (ntw a2) (wtw a3) a6 (k0_pay291 (F := Ideal) x4) (k0_pay292 (F := Ideal) x5) b s l
      = aq a0 a1 a2 a3 a4 a5 a6 b ⟨128 * s.val + l.val, by omega⟩ := by
  unfold av aq
  simp only [yv_eq a0 a1 x1 a2 a3 a4 a5 x4 x5 a6 h1 h4 h5]

include h1 h4 h5 in
/-- The kernel's first result, -/
theorem out7_eq : out7 x1 (xtw a0) (ntw a2) (wtw a3) a6 (k0_pay291 (F := Ideal) x4) (k0_pay292 (F := Ideal) x5) = res7 a0 a1 a2 a3 a4 a5 a6 := by
  funext y
  have hy : (y 1).val < 896 := (y 1).isLt
  refine (out7_at _ _ _ _ _ _ _ (y 0) ⟨(y 1).val / 128, by omega⟩ ⟨(y 1).val % 128, by omega⟩ (y 2) y rfl
    (by show (y 1).val = 128 * ((y 1).val / 128) + (y 1).val % 128; omega) rfl).trans
    ((congrArg₂ codeOf (av_eq a0 a1 x1 a2 a3 a4 a5 x4 x5 a6 h1 h4 h5 (y 0) _ _) (yv_eq a0 a1 x1 a2 a3 a4 a5 x4 x5 a6 h1 h4 h5 (y 0) _ _ (y 2))).trans ?_)
  have e : (⟨128 * ((y 1).val / 128) + (y 1).val % 128, by omega⟩ : Fin 896) = y 1 := Fin.ext (by show 128 * ((y 1).val / 128) + (y 1).val % 128 = (y 1).val; omega)
  refine (congrArg (fun r => codeOf (aq a0 a1 a2 a3 a4 a5 a6 (y 0) r) (yq a0 a1 a2 a3 a4 a5 a6 (y 0) r (y 2))) e).trans ?_
  exact congrArg (fun z => min (Ideal.ofBits FTy.f32 1138753536#32) (max (Ideal.ofBits FTy.f32 3286237184#32) (yq a0 a1 a2 a3 a4 a5 a6 (y 0) (y 1) (y 2) * z)))
    (invOf_eq _ (aq_nonneg a0 a1 a2 a3 a4 a5 a6 (y 0) (y 1)))

include h1 h4 h5 in
/-- and its second. -/
theorem out8_eq : out8 x1 (xtw a0) (ntw a2) (wtw a3) a6 (k0_pay291 (F := Ideal) x4) (k0_pay292 (F := Ideal) x5) = res8 a0 a1 a2 a3 a4 a5 a6 := by
  funext y
  refine (out8_at _ _ _ _ _ _ _ (y 0) (y 1) (y 3) y rfl rfl rfl).trans
    ((congrArg scaleOf (av_eq a0 a1 x1 a2 a3 a4 a5 x4 x5 a6 h1 h4 h5 (y 0) (y 1) (y 3))).trans ?_)
  exact scaleOf_eq _ (aq_nonneg a0 a1 a2 a3 a4 a5 a6 _ _)

end kernel

end Cert.Proof.KernelIdeal

end
-- ==== Proof.KernelStaged.lean ====
/- The kernel's two results as `res7` and `res8` of its argument arrays: its blocks are its arrays, and the arrays staged
   before it are reshapes of arguments. -/
module

public import proofs.«01_k».proof.Proof.KernelIdealValue
public import proofs.«01_k».proof.Proof.Spec
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 65536

noncomputable section

namespace Cert.Proof.KernelIdealValue

open Cert.KernelIdeal Cert.KernelIdeal.Gen Cert.Proof.KernelIdeal
open Idealize.ShloMosaic Idealize.ShloMosaic.TcCoe Idealize.SL.Sem

variable (m : (ℓ : Loc nD τ sig) → Buf (Elt Ideal) ℓ)

theorem index0_in : ∀ t : Fin cfg0.N, win0_0.index t = ![0, 0, 0] ∧ win0_1.index t = ![0, 0, 0, 0] ∧ win0_2.index t = ![0, 0, 0] ∧ win0_3.index t = ![0, 0, 0]
    ∧ win0_4.index t = ![0, 0] ∧ win0_5.index t = ![0, 0] ∧ win0_6.index t = ![0, 0, 0] := (by decide +kernel : ∀ t : Fin grid0.N, _)

theorem b0 (c : Dev nD) : iblk m c 0 t0_0 = V m c main_arg0 := by funext y; blk_ext [iblk, index0_in t0_0]
theorem b1 (c : Dev nD) : iblk m c 1 t0_0 = V m c main_v0 := by funext y; blk_ext [iblk, index0_in t0_0]
theorem b2 (c : Dev nD) : iblk m c 2 t0_0 = V m c main_arg2 := by funext y; blk_ext [iblk, index0_in t0_0]
theorem b3 (c : Dev nD) : iblk m c 3 t0_0 = V m c main_arg3 := by funext y; blk_ext [iblk, index0_in t0_0]
theorem b4 (c : Dev nD) : iblk m c 4 t0_0 = V m c main_v1 := by funext y; blk_ext [iblk, index0_in t0_0]
theorem b5 (c : Dev nD) : iblk m c 5 t0_0 = V m c main_v2 := by funext y; blk_ext [iblk, index0_in t0_0]
theorem b6 (c : Dev nD) : iblk m c 6 t0_0 = V m c main_arg6 := by funext y; blk_ext [iblk, index0_in t0_0]

theorem w1 (c : Dev nD) (b : Fin 2) (h : Fin 7) (l : Fin 128) :
    V m c main_v0 (ix4 b h 0 l) = m (c, Proc.tc.devRef main_arg1) (ix2 b ⟨128 * h.val + l.val, by omega⟩) := by
  unfold V
  simp only [hostOps0, List.flatten_cons, List.flatten_nil, List.append_nil, List.cons_append, List.nil_append]
  after_reads_at
  refine congrArg (m (c, Proc.tc.devRef main_arg1)) (congrArg (ix2 b) (Fin.ext ?_))
  show h.val * 128 + l.val = 128 * h.val + l.val
  omega

theorem w4 (c : Dev nD) (o : Fin 384) : V m c main_v1 (ix2 0 o) = m (c, Proc.tc.devRef main_arg4) (ix1 o) := by
  unfold V
  simp only [hostOps0, List.flatten_cons, List.flatten_nil, List.append_nil, List.cons_append, List.nil_append]
  after_reads_at

theorem w5 (c : Dev nD) (o : Fin 384) : V m c main_v2 (ix2 0 o) = m (c, Proc.tc.devRef main_arg5) (ix1 o) := by
  unfold V
  simp only [hostOps0, List.flatten_cons, List.flatten_nil, List.append_nil, List.cons_append, List.nil_append]
  after_reads_at

theorem arr7 (c : Dev nD) : (dats m 0 c).arrAt 7 (cfgs 0).N
    = res7 (m (c, Proc.tc.devRef main_arg0)) (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6)) := by
  refine (final7 m c).trans ?_
  rw [b0, b1, b2, b3, b4, b5, b6, V_main_arg0, V_main_arg2, V_main_arg3, V_main_arg6]
  exact out7_eq _ _ _ _ _ _ _ _ _ _ (w1 m c) (w4 m c) (w5 m c)

theorem arr8 (c : Dev nD) : (dats m 0 c).arrAt 8 (cfgs 0).N
    = res8 (m (c, Proc.tc.devRef main_arg0)) (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6)) := by
  refine (final8 m c).trans ?_
  rw [b0, b1, b2, b3, b4, b5, b6, V_main_arg0, V_main_arg2, V_main_arg3, V_main_arg6]
  exact out8_eq _ _ _ _ _ _ _ _ _ _ (w1 m c) (w4 m c) (w5 m c)

/-- The kernel's run: its results are `res7` and `res8` of its arguments, which are unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3_0) = res7 (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) (m (c, Proc.tc.devRef main_arg6))
      ∧ r.2.mem ((c.tc : Thread nD τ).loc main_v3_1) = res8 (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) (m (c, Proc.tc.devRef main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (arr7 m c), ((h.1 c).1 8).trans (arr8 m c), h.2.1 c⟩)
    (θ_run_and (run_main m ρ) (frame m ρ))

end Cert.Proof.KernelIdealValue

end
-- ==== Proof.RefPayload.lean ====
/- The reference's two results, once its staged operands are read: `res7` and `res8` of the argument arrays. -/
module

public import proofs.«01_k».proof.Proof.Gen.ReferenceIdeal.Frame
public import proofs.«01_k».proof.Proof.Spec
public import Idealize.ShloMosaic.Lib.Pointwise

@[expose] public section

set_option maxRecDepth 65536

noncomputable section

namespace Cert.Proof.ReferenceIdeal

open Cert.ReferenceIdeal Cert.ReferenceIdeal.Gen
open Idealize.ShloMosaic Idealize.ShloMosaic.TcCoe Idealize.SL.Sem
open Cert.Proof.KernelIdeal (gq nbrOf chanOf yq aq res7 res8 refE yq_nonneg bits_1)
open scoped BigOperators

/-- The exponent the reference takes is `refE`. -/
theorem exponent_eq (a : EReal) :
    (if a = 0 then (0 : EReal) else min (Ideal.ofBits FTy.f32 1123024896#32) (max (Ideal.ofBits FTy.f32 3271294976#32)
      (Ideal.liftRound Int.floor (Ideal.div (Ideal.log (a * Ideal.ofBits FTy.f32 991054117#32)) (Ideal.log (Ideal.ofBits FTy.f32 1073741824#32))) + 1)))
      = refE a := by
  unfold refE
  rw [bits_1]
  rfl

variable (x0 : Vec Ideal S1792x8640 .i8) (x1 : Vec Ideal S1792x8640 .f32) (x2 : Vec Ideal S1792x8640 .i32) (x3 : Vec Ideal S8640x384 .fp8e4m3)
  (x4 x5 : Vec Ideal S1x384 .f32) (x6 : Vec Ideal S1792x384 .bf16)
  (a0 : Vec Ideal S2x896x320 .i8) (a1 : Vec Ideal S2x896 .f32) (a2 : Vec Ideal S2x896x27 .i32)
  (a3 : Vec Ideal S27x320x384 .fp8e4m3) (a4 a5 : Vec Ideal S384 .f32) (a6 : Vec Ideal S2x896x384 .bf16)
  (hsel : ∀ (R : Fin 1792) (q : Fin 8640) (b : Fin 2) (r : Fin 896), R.val = b.val * 896 + r.val →
    Scalar.select (IntOp.cmpi CmpIPredicate.ne (x2 (ix2 R q)) 0#32) (Ideal.ofBits FTy.fp8e4m3 (x0 (ix2 R q)) * x1 (ix2 R q)) (0 : EReal)
      = gq a0 a1 a2 b r (nbrOf q) (chanOf q))
  (h3 : ∀ (q : Fin 8640) (o : Fin 384), x3 (ix2 q o) = a3 (ix3 (nbrOf q) (chanOf q) o))
  (h4 : ∀ o : Fin 384, x4 (ix2 0 o) = a4 (ix1 o)) (h5 : ∀ o : Fin 384, x5 (ix2 0 o) = a5 (ix1 o))
  (h6 : ∀ (R : Fin 1792) (o : Fin 384) (b : Fin 2) (r : Fin 896), R.val = b.val * 896 + r.val → x6 (ix2 R o) = a6 (ix3 b r o))

theorem select_mul (p : BitVec 1) (u w : EReal) : Scalar.select p (u * w) (0 : EReal) = Scalar.select p u (0 : EReal) * w := by
  unfold Scalar.select
  split
  · rfl
  · exact (zero_mul w).symm

include hsel h3 h4 h5 h6 in
theorem y_at (b : Fin 2) (s : Fin 7) (l : Fin 128) (o : Fin 384) :
    k0_pay4 x0 x1 x2 x3 x4 x5 x6 (ix4 b s l o) = yq a0 a1 a2 a3 a4 a5 a6 b ⟨128 * s.val + l.val, by omega⟩ o := by
  pointwise [k0_pay4]
  have hR : b.val * 896 + s.val * 128 + l.val = b.val * 896 + (128 * s.val + l.val) := by omega
  have hs : ∀ q : Fin 8640, Scalar.select (IntOp.cmpi CmpIPredicate.ne (x2 (ix2 ⟨b.val * 896 + s.val * 128 + l.val, by omega⟩ q)) 0#32)
      (Ideal.ofBits FTy.fp8e4m3 (x0 (ix2 ⟨b.val * 896 + s.val * 128 + l.val, by omega⟩ q)) * x1 (ix2 ⟨b.val * 896 + s.val * 128 + l.val, by omega⟩ q) * x3 (ix2 q o)) (0 : EReal)
      = gq a0 a1 a2 b ⟨128 * s.val + l.val, by omega⟩ ⟨q.val / 320, by omega⟩ ⟨q.val % 320, by omega⟩ * a3 (ix3 ⟨q.val / 320, by omega⟩ ⟨q.val % 320, by omega⟩ o) :=
    fun q => (select_mul _ _ _).trans (congr (congrArg HMul.hMul (hsel _ q b ⟨128 * s.val + l.val, by omega⟩ hR)) (h3 q o))
  unfold yq
  refine congrArg (fun z => max z (0 : EReal)) ?_
  refine congr (congrArg HAdd.hAdd (congr (congrArg HAdd.hAdd (congr (congrArg HMul.hMul (Finset.sum_congr rfl fun q _ => hs q)) (h4 o))) (h5 o))) (h6 _ o b _ hR)

include hsel h3 h4 h5 h6 in
theorem a_at (b : Fin 2) (s : Fin 7) (l : Fin 128) :
    k0_pay5 x0 x1 x2 x3 x4 x5 x6 (ix3 b s l) = aq a0 a1 a2 a3 a4 a5 a6 b ⟨128 * s.val + l.val, by omega⟩ := by
  pointwise [k0_pay5]
  unfold aq
  refine Finset.fold_congr fun o _ => ?_
  refine (congrArg FloatOps.absf (y_at x0 x1 x2 x3 x4 x5 x6 a0 a1 a2 a3 a4 a5 a6 hsel h3 h4 h5 h6 b s l o)).trans ?_
  have h := yq_nonneg a0 a1 a2 a3 a4 a5 a6 b ⟨128 * s.val + l.val, by omega⟩ o
  show max (_ : EReal) (-_) = _
  exact max_eq_left ((EReal.neg_le_zero.mpr h).trans h)

include hsel h3 h4 h5 h6 in
theorem l_at (b : Fin 2) (s : Fin 7) (l : Fin 128) :
    k0_pay6 x0 x1 x2 x3 x4 x5 x6 (ix3 b s l) = Ideal.log (aq a0 a1 a2 a3 a4 a5 a6 b ⟨128 * s.val + l.val, by omega⟩ * Ideal.ofBits FTy.f32 991054117#32) := by
  pointwise [k0_pay6]
  rw [a_at x0 x1 x2 x3 x4 x5 x6 a0 a1 a2 a3 a4 a5 a6 hsel h3 h4 h5 h6]

include hsel h3 h4 h5 h6 in
/-- The reference's first result, -/
theorem pay7 : k0_pay2 (k0_pay4 x0 x1 x2 x3 x4 x5 x6) (k0_pay5 x0 x1 x2 x3 x4 x5 x6) (k0_pay6 x0 x1 x2 x3 x4 x5 x6) (k0_pay7 (F := Ideal))
    = res7 a0 a1 a2 a3 a4 a5 a6 := by
  funext y
  obtain ⟨b, r, o, rfl⟩ : ∃ (b : Fin 2) (r : Fin 896) (o : Fin 384), y = ix3 b r o := ⟨y 0, y 1, y 2, (ix3_eta y).symm⟩
  have hy := y_at x0 x1 x2 x3 x4 x5 x6 a0 a1 a2 a3 a4 a5 a6 hsel h3 h4 h5 h6 b ⟨r.val / 128, by omega⟩ ⟨r.val % 128, by omega⟩ o
  have ha := a_at x0 x1 x2 x3 x4 x5 x6 a0 a1 a2 a3 a4 a5 a6 hsel h3 h4 h5 h6 b ⟨r.val / 128, by omega⟩ ⟨r.val % 128, by omega⟩
  have hl := l_at x0 x1 x2 x3 x4 x5 x6 a0 a1 a2 a3 a4 a5 a6 hsel h3 h4 h5 h6 b ⟨r.val / 128, by omega⟩ ⟨r.val % 128, by omega⟩
  have e : (⟨128 * (r.val / 128) + r.val % 128, by omega⟩ : Fin 896) = r := Fin.ext (by show 128 * (r.val / 128) + r.val % 128 = r.val; omega)
  generalize k0_pay4 x0 x1 x2 x3 x4 x5 x6 = v32 at hy ⊢
  generalize k0_pay5 x0 x1 x2 x3 x4 x5 x6 = v34 at ha ⊢
  generalize k0_pay6 x0 x1 x2 x3 x4 x5 x6 = v37 at hl ⊢
  simp only [e] at hy ha hl
  pointwise [k0_pay2, k0_pay1, k0_pay7]
  rw [hy, ha, hl]
  refine Eq.trans (b := min (Ideal.ofBits FTy.f32 1138753536#32) (max (Ideal.ofBits FTy.f32 3286237184#32)
    (yq a0 a1 a2 a3 a4 a5 a6 b r o * Ideal.exp2 (0 - refE (aq a0 a1 a2 a3 a4 a5 a6 b r))))) ?_ rfl
  rw [← exponent_eq]
  rfl

include hsel h3 h4 h5 h6 in
/-- and its second. -/
theorem pay8 : k0_pay3 (k0_pay5 x0 x1 x2 x3 x4 x5 x6) (k0_pay6 x0 x1 x2 x3 x4 x5 x6) (k0_pay7 (F := Ideal)) = res8 a0 a1 a2 a3 a4 a5 a6 := by
  funext y
  obtain ⟨b, s, l, rfl⟩ : ∃ (b : Fin 2) (s : Fin 7) (l : Fin 128), y = ix4 b s 0 l :=
    ⟨y 0, y 1, y 3, (ix4_eta y).symm.trans (congrArg (fun z => ix4 (y 0) (y 1) z (y 3)) (Subsingleton.elim (α := Fin 1) _ _))⟩
  have ha := a_at x0 x1 x2 x3 x4 x5 x6 a0 a1 a2 a3 a4 a5 a6 hsel h3 h4 h5 h6 b s l
  have hl := l_at x0 x1 x2 x3 x4 x5 x6 a0 a1 a2 a3 a4 a5 a6 hsel h3 h4 h5 h6 b s l
  generalize k0_pay5 x0 x1 x2 x3 x4 x5 x6 = v34 at ha ⊢
  generalize k0_pay6 x0 x1 x2 x3 x4 x5 x6 = v37 at hl ⊢
  pointwise [k0_pay3, k0_pay1, k0_pay7]
  rw [ha, hl]
  refine Eq.trans (b := Ideal.exp2 (refE (aq a0 a1 a2 a3 a4 a5 a6 b ⟨128 * s.val + l.val, by omega⟩))) ?_ rfl
  rw [← exponent_eq]
  rfl

end Cert.Proof.ReferenceIdeal

end
-- ==== Proof.RefStaged.lean ====
/- The operands the reference stages before its kernel, read at an index: gathered rows, gathered scales, the mask of the
   neighbours that are there, and the reshaped weights, scales, biases and skip rows. -/
module

public import proofs.«01_k».proof.Proof.Gen.ReferenceIdeal.Frame
public import proofs.«01_k».proof.Proof.Spec
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.Routing.Ops
public import Idealize.ShloMosaic.Lib.Routing.OpsSet

@[expose] public section

set_option maxRecDepth 65536

noncomputable section

namespace Cert.Proof.ReferenceIdeal

open Cert.ReferenceIdeal Cert.ReferenceIdeal.Gen
open Idealize.ShloMosaic Idealize.ShloMosaic.TcCoe Idealize.SL.Sem
open Cert.Proof.KernelIdeal (gq)

variable (m : (ℓ : Loc nD τ sig) → Buf (Elt Ideal) ℓ)

/-- The row a neighbour in range names among the rows of both batches. -/
theorem word_row : ∀ (k : Fin 896) (b : Fin 2), IntOp.addi (IntOp.maxsi (BitVec.ofNat 32 k.val) 0#32) (IntOp.muli (BitVec.ofNat 32 b.val) 896#32)
    = BitVec.ofNat 32 (b.val * 896 + k.val) := by decide +kernel

/-- The mask of a neighbour in range is set, -/
theorem word_mask : ∀ k : Fin 896, IntOp.cmpi CmpIPredicate.ne (BitVec.setWidth 32 (IntOp.cmpi CmpIPredicate.sge (BitVec.ofNat 32 k.val) 0#32)) 0#32 = 1#1 := by
  decide +kernel

/-- and that of any other word below 896 is not: such a word is negative. -/
theorem word_mask_neg (n : BitVec 32) (hs : n.slt 896#32 = true) (hn : ¬ n.toNat < 896) :
    IntOp.cmpi CmpIPredicate.ne (BitVec.setWidth 32 (IntOp.cmpi CmpIPredicate.sge n 0#32)) 0#32 = 0#1 := by
  have h : (0#32).sle n = false := by
    have h1 : n.toInt < 896 := by simpa [BitVec.slt] using hs
    have h2 : ¬ (0 : Int) ≤ n.toInt := by
      rw [BitVec.toInt_eq_toNat_cond] at h1 ⊢
      split at h1 <;> rename_i hc <;> simp only [hc, if_true, if_false] <;> omega
    simpa [BitVec.sle] using h2
  have e : IntOp.cmpi CmpIPredicate.sge n 0#32 = 0#1 := by
    show BitVec.ofBool ((0#32).sle n) = 0#1
    rw [h]; rfl
  rw [e]
  decide

/-- A word below 896 is the word of its number. -/
theorem word_eq (n : BitVec 32) : n = BitVec.ofNat 32 n.toNat := BitVec.eq_of_toNat_eq (by rw [BitVec.toNat_ofNat, Nat.mod_eq_of_lt n.isLt])

/-- The gathered codes: the row the neighbour names. -/
theorem w0 (c : Dev nD) (R : Fin 1792) (q : Fin 8640) (b : Fin 2) (r : Fin 896) (hR : R.val = b.val * 896 + r.val)
    (n : Fin 896) (hn : m (c, Proc.tc.devRef main_arg2) (ix3 b r ⟨q.val / 320, by omega⟩) = BitVec.ofNat 32 n.val) :
    V m c main_v17 (ix2 R q) = m (c, Proc.tc.devRef main_arg0) (ix3 b n ⟨q.val % 320, by omega⟩) := by
  unfold V
  simp only [hostOps0, hostOps0_1, hostOps0_2, hostOps0_3, hostOps0_4, List.flatten_cons, List.flatten_nil, List.append_nil, List.cons_append, List.nil_append]
  after_reads_at
  refine (Routing.gather_row gather_S1792x320_S48384x1_S48384x320_1_0_n_n_0_1_1320 rfl rfl rfl rfl rfl _ _ _ _ ⟨b.val * 896 + n.val, by omega⟩ ?_ (by decide)).trans ?_
  · show IntOp.addi (IntOp.maxsi (m (c, Proc.tc.devRef main_arg2) (ix3 ⟨(R.val * 27 + q.val / 320) / 24192, by omega⟩ ⟨(R.val * 27 + q.val / 320) / 27 % 896, by omega⟩
      ⟨(R.val * 27 + q.val / 320) % 27, by omega⟩)) 0#32) (IntOp.muli (BitVec.ofNat 32 ((R.val * 27 + q.val / 320) / 24192)) 896#32) = _
    refine Eq.trans (congr (congrArg IntOp.addi (congrArg (fun z => IntOp.maxsi z 0#32) ((congrArg (m (c, Proc.tc.devRef main_arg2)) ?_).trans hn)))
      (congrArg (fun z => IntOp.muli (BitVec.ofNat 32 z) 896#32) ?_)) (word_row n b)
    · refine congr (congr (congrArg ix3 (Fin.ext ?_)) (Fin.ext ?_)) (Fin.ext ?_)
      · show (R.val * 27 + q.val / 320) / 24192 = b.val; omega
      · show (R.val * 27 + q.val / 320) / 27 % 896 = r.val; omega
      · show (R.val * 27 + q.val / 320) % 27 = q.val / 320; omega
    · show (R.val * 27 + q.val / 320) / 24192 = b.val; omega
  · refine congrArg (m (c, Proc.tc.devRef main_arg0)) (congr (congr (congrArg ix3 (Fin.ext ?_)) (Fin.ext ?_)) rfl)
    · show (b.val * 896 + n.val) / 896 = b.val; omega
    · show (b.val * 896 + n.val) % 896 = n.val; omega

/-- The gathered scales. -/
theorem w1 (c : Dev nD) (R : Fin 1792) (q : Fin 8640) (b : Fin 2) (r : Fin 896) (hR : R.val = b.val * 896 + r.val)
    (n : Fin 896) (hn : m (c, Proc.tc.devRef main_arg2) (ix3 b r ⟨q.val / 320, by omega⟩) = BitVec.ofNat 32 n.val) :
    V m c main_v20 (ix2 R q) = m (c, Proc.tc.devRef main_arg1) (ix2 b n) := by
  unfold V
  simp only [hostOps0, hostOps0_1, hostOps0_2, hostOps0_3, hostOps0_4, List.flatten_cons, List.flatten_nil, List.append_nil, List.cons_append, List.nil_append]
  after_reads_at
  refine (Routing.gather_take1 gather_S1792_S48384x1_S48384_n_0_n_n_0_1_1 rfl rfl rfl rfl _ _ _ ⟨b.val * 896 + n.val, by omega⟩ ?_ (by decide)).trans ?_
  · show IntOp.addi (IntOp.maxsi (m (c, Proc.tc.devRef main_arg2) (ix3 ⟨(R.val * 27 + q.val / 320) / 24192, by omega⟩ ⟨(R.val * 27 + q.val / 320) / 27 % 896, by omega⟩
      ⟨(R.val * 27 + q.val / 320) % 27, by omega⟩)) 0#32) (IntOp.muli (BitVec.ofNat 32 ((R.val * 27 + q.val / 320) / 24192)) 896#32) = _
    refine Eq.trans (congr (congrArg IntOp.addi (congrArg (fun z => IntOp.maxsi z 0#32) ((congrArg (m (c, Proc.tc.devRef main_arg2)) ?_).trans hn)))
      (congrArg (fun z => IntOp.muli (BitVec.ofNat 32 z) 896#32) ?_)) (word_row n b)
    · refine congr (congr (congrArg ix3 (Fin.ext ?_)) (Fin.ext ?_)) (Fin.ext ?_)
      · show (R.val * 27 + q.val / 320) / 24192 = b.val; omega
      · show (R.val * 27 + q.val / 320) / 27 % 896 = r.val; omega
      · show (R.val * 27 + q.val / 320) % 27 = q.val / 320; omega
    · show (R.val * 27 + q.val / 320) / 24192 = b.val; omega
  · refine congrArg (m (c, Proc.tc.devRef main_arg1)) (congr (congrArg ix2 (Fin.ext ?_)) (Fin.ext ?_))
    · show (b.val * 896 + n.val) / 896 = b.val; omega
    · show (b.val * 896 + n.val) % 896 = n.val; omega

/-- The mask of the neighbours that are there. -/
theorem w2 (c : Dev nD) (R : Fin 1792) (q : Fin 8640) (b : Fin 2) (r : Fin 896) (hR : R.val = b.val * 896 + r.val) :
    V m c main_v24 (ix2 R q) = BitVec.setWidth 32 (IntOp.cmpi CmpIPredicate.sge (m (c, Proc.tc.devRef main_arg2) (ix3 b r ⟨q.val / 320, by omega⟩)) 0#32) := by
  unfold V
  simp only [hostOps0, hostOps0_1, hostOps0_2, hostOps0_3, hostOps0_4, List.flatten_cons, List.flatten_nil, List.append_nil, List.cons_append, List.nil_append]
  after_reads_at
  refine congrArg (fun z => BitVec.setWidth 32 (IntOp.cmpi CmpIPredicate.sge (m (c, Proc.tc.devRef main_arg2) z) 0#32)) (congr (congr (congrArg ix3 (Fin.ext ?_)) (Fin.ext ?_)) rfl)
  · show R.val / 896 = b.val; omega
  · show R.val % 896 = r.val; omega

/-- The weights, scales, biases and skip rows, reshaped. -/
theorem w3 (c : Dev nD) (q : Fin 8640) (o : Fin 384) :
    V m c main_v25 (ix2 q o) = m (c, Proc.tc.devRef main_arg3) (ix3 ⟨q.val / 320, by omega⟩ ⟨q.val % 320, by omega⟩ o) := by
  unfold V
  simp only [hostOps0, hostOps0_1, hostOps0_2, hostOps0_3, hostOps0_4, List.flatten_cons, List.flatten_nil, List.append_nil, List.cons_append, List.nil_append]
  after_reads_at

theorem w4 (c : Dev nD) (o : Fin 384) : V m c main_v26 (ix2 0 o) = m (c, Proc.tc.devRef main_arg4) (ix1 o) := by
  unfold V
  simp only [hostOps0, hostOps0_1, hostOps0_2, hostOps0_3, hostOps0_4, List.flatten_cons, List.flatten_nil, List.append_nil, List.cons_append, List.nil_append]
  after_reads_at

theorem w5 (c : Dev nD) (o : Fin 384) : V m c main_v27 (ix2 0 o) = m (c, Proc.tc.devRef main_arg5) (ix1 o) := by
  unfold V
  simp only [hostOps0, hostOps0_1, hostOps0_2, hostOps0_3, hostOps0_4, List.flatten_cons, List.flatten_nil, List.append_nil, List.cons_append, List.nil_append]
  after_reads_at

theorem w6 (c : Dev nD) (R : Fin 1792) (o : Fin 384) (b : Fin 2) (r : Fin 896) (hR : R.val = b.val * 896 + r.val) :
    V m c main_v28 (ix2 R o) = m (c, Proc.tc.devRef main_arg6) (ix3 b r o) := by
  unfold V
  simp only [hostOps0, hostOps0_1, hostOps0_2, hostOps0_3, hostOps0_4, List.flatten_cons, List.flatten_nil, List.append_nil, List.cons_append, List.nil_append]
  after_reads_at
  refine congrArg (m (c, Proc.tc.devRef main_arg6)) (congr (congr (congrArg ix3 (Fin.ext ?_)) (Fin.ext ?_)) rfl)
  · show R.val / 896 = b.val; omega
  · show R.val % 896 = r.val; omega

/-- A gathered code times its gathered scale, masked: the dequantised neighbour. -/
theorem sel_eq (c : Dev nD) (hpre : ∀ i, (m (c, Proc.tc.devRef main_arg2) i : BitVec 32).slt 896#32 = true)
    (R : Fin 1792) (q : Fin 8640) (b : Fin 2) (r : Fin 896) (hR : R.val = b.val * 896 + r.val) :
    Scalar.select (IntOp.cmpi CmpIPredicate.ne (V m c main_v24 (ix2 R q)) 0#32) (Ideal.ofBits FTy.fp8e4m3 (V m c main_v17 (ix2 R q)) * V m c main_v20 (ix2 R q)) (0 : EReal)
      = gq (m (c, Proc.tc.devRef main_arg0)) (m (c, Proc.tc.devRef main_arg1)) (m (c, Proc.tc.devRef main_arg2)) b r ⟨q.val / 320, by omega⟩ ⟨q.val % 320, by omega⟩ := by
  rw [w2 m c R q b r hR]
  unfold gq
  by_cases h : (m (c, Proc.tc.devRef main_arg2) (ix3 b r ⟨q.val / 320, by omega⟩) : BitVec 32).toNat < 896
  · have hw := word_eq (m (c, Proc.tc.devRef main_arg2) (ix3 b r ⟨q.val / 320, by omega⟩))
    rw [w0 m c R q b r hR ⟨_, h⟩ hw, w1 m c R q b r hR ⟨_, h⟩ hw, dif_pos h]
    have e : IntOp.cmpi CmpIPredicate.ne (BitVec.setWidth 32 (IntOp.cmpi CmpIPredicate.sge (m (c, Proc.tc.devRef main_arg2) (ix3 b r ⟨q.val / 320, by omega⟩)) 0#32)) 0#32 = 1#1 :=
      (congrArg (fun z => IntOp.cmpi CmpIPredicate.ne (BitVec.setWidth 32 (IntOp.cmpi CmpIPredicate.sge z 0#32)) 0#32) hw).trans (word_mask ⟨_, h⟩)
    rw [e]
    rfl
  · rw [word_mask_neg _ (hpre _) h, dif_neg h]
    rfl

end Cert.Proof.ReferenceIdeal

end
-- ==== Proof.RefValue.lean ====
/- The reference's two results as `res7` and `res8` of its argument arrays. -/
module

public import proofs.«01_k».proof.Proof.RefPayload
public import proofs.«01_k».proof.Proof.RefStaged

@[expose] public section

set_option maxRecDepth 65536

noncomputable section

namespace Cert.Proof.ReferenceIdeal

open Cert.ReferenceIdeal Cert.ReferenceIdeal.Gen
open Idealize.ShloMosaic Idealize.ShloMosaic.TcCoe Idealize.SL.Sem
open Cert.Proof.KernelIdeal (res7 res8)

variable (m : (ℓ : Loc nD τ sig) → Buf (Elt Ideal) ℓ)

theorem index0_in : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] := (by decide +kernel : ∀ t : Fin grid0.N, _)

theorem b0 (c : Dev nD) : iblk m c 0 t0_0 = V m c main_v17 := by funext y; blk_ext [iblk, index0_in t0_0]
theorem b1 (c : Dev nD) : iblk m c 1 t0_0 = V m c main_v20 := by funext y; blk_ext [iblk, index0_in t0_0]
theorem b2 (c : Dev nD) : iblk m c 2 t0_0 = V m c main_v24 := by funext y; blk_ext [iblk, index0_in t0_0]
theorem b3 (c : Dev nD) : iblk m c 3 t0_0 = V m c main_v25 := by funext y; blk_ext [iblk, index0_in t0_0]
theorem b4 (c : Dev nD) : iblk m c 4 t0_0 = V m c main_v26 := by funext y; blk_ext [iblk, index0_in t0_0]
theorem b5 (c : Dev nD) : iblk m c 5 t0_0 = V m c main_v27 := by funext y; blk_ext [iblk, index0_in t0_0]
theorem b6 (c : Dev nD) : iblk m c 6 t0_0 = V m c main_v28 := by funext y; blk_ext [iblk, index0_in t0_0]

/-- What the body leaves in the first result's buffer, its loads and its store being whole, -/
theorem out0_7_eq (x0 : Vec Ideal S1792x8640 .i8) (x1 : Vec Ideal S1792x8640 .f32) (x2 : Vec Ideal S1792x8640 .i32) (x3 : Vec Ideal S8640x384 .fp8e4m3)
    (x4 x5 : Vec Ideal S1x384 .f32) (x6 : Vec Ideal S1792x384 .bf16) :
    out0_7 x0 x1 x2 x3 x4 x5 x6
      = k0_pay2 (k0_pay4 x0 x1 x2 x3 x4 x5 x6) (k0_pay5 x0 x1 x2 x3 x4 x5 x6) (k0_pay6 x0 x1 x2 x3 x4 x5 x6) (k0_pay7 (F := Ideal)) := by
  unfold_out out0_7
  frame_out

/-- and in the second's. -/
theorem out0_8_eq (x0 : Vec Ideal S1792x8640 .i8) (x1 : Vec Ideal S1792x8640 .f32) (x2 : Vec Ideal S1792x8640 .i32) (x3 : Vec Ideal S8640x384 .fp8e4m3)
    (x4 x5 : Vec Ideal S1x384 .f32) (x6 : Vec Ideal S1792x384 .bf16) :
    out0_8 x0 x1 x2 x3 x4 x5 x6 = k0_pay3 (k0_pay5 x0 x1 x2 x3 x4 x5 x6) (k0_pay6 x0 x1 x2 x3 x4 x5 x6) (k0_pay7 (F := Ideal)) := by
  unfold_out out0_8
  frame_out

theorem final7 (c : Dev nD) : (dats m 0 c).arrAt 7 (cfgs 0).N = out0_7 (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 7 t0_0 (by decide +kernel) _ fun j => ?_
  blk_simp
  rw [after0_7]

theorem final8 (c : Dev nD) : (dats m 0 c).arrAt 8 (cfgs 0).N = out0_8 (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 8 t0_0 (by decide +kernel) _ fun j => ?_
  blk_simp
  rw [after0_8]

variable (c : Dev nD) (hpre : ∀ i, (m (c, Proc.tc.devRef main_arg2) i : BitVec 32).slt 896#32 = true)

include hpre in
theorem arr7 : (dats m 0 c).arrAt 7 (cfgs 0).N
    = res7 (m (c, Proc.tc.devRef main_arg0)) (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6)) := by
  refine (final7 m c).trans ?_
  rw [b0, b1, b2, b3, b4, b5, b6, out0_7_eq]
  exact pay7 _ _ _ _ _ _ _ _ _ _ _ _ _ _ (sel_eq m c hpre) (w3 m c) (w4 m c) (w5 m c) (w6 m c)

include hpre in
theorem arr8 : (dats m 0 c).arrAt 8 (cfgs 0).N
    = res8 (m (c, Proc.tc.devRef main_arg0)) (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6)) := by
  refine (final8 m c).trans ?_
  rw [b0, b1, b2, b3, b4, b5, b6, out0_8_eq]
  exact pay8 _ _ _ _ _ _ _ _ _ _ _ _ _ _ (sel_eq m c hpre) (w3 m c) (w4 m c) (w5 m c) (w6 m c)

/-- The reference's run: its results are `res7` and `res8` of its arguments, which are unchanged. -/
theorem run (ρ : Dev nD → PrngReg) (hpre : ∀ (c : Dev nD) i, (m (c, Proc.tc.devRef main_arg2) i : BitVec 32).slt 896#32 = true) :
    θ_run defs (onTc (τ := τ) (main (F := Ideal))) ⟨m, fun _ => 0, ρ⟩ (fun r => ∀ c : Dev nD,
      r.2.mem ((c.tc : Thread nD τ).loc main_v29_0) = res7 (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) (m (c, Proc.tc.devRef main_arg6))
      ∧ r.2.mem ((c.tc : Thread nD τ).loc main_v29_1) = res8 (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) (m (c, Proc.tc.devRef main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (arr7 m c (hpre c)), ((h.1 c).1 8).trans (arr8 m c (hpre c)), h.2 c⟩)
    (θ_run_and (run_main m ρ) (unchanged m ρ))

end Cert.Proof.ReferenceIdeal

end
-- ==== Proof.lean ====
module

public import proofs.«01_k».proof.Defs
public import proofs.«01_k».proof.Proof.KernelFrame
public import proofs.«01_k».proof.Proof.KernelStaged
public import proofs.«01_k».proof.Proof.RefValue
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem

/-- The side condition of the precondition. -/
theorem Cert.Proof.facts_pre : Cert.Pre_neighbours_in_range.Facts := ⟨by decide +kernel⟩

/-- The precondition at one neighbour. -/
theorem Cert.Proof.pre_at [Cert.Pre_neighbours_in_range.Facts] (m : (ℓ : Loc Cert.KernelIdeal.nD Cert.KernelIdeal.τ Cert.KernelIdeal.sig) → Buf (Elt Ideal) ℓ)
    (h : Cert.Pre_KernelIdeal_neighbours_in_range m) (c : Dev Cert.KernelIdeal.nD) (i) :
    (m ((c.tc : Thread Cert.KernelIdeal.nD Cert.KernelIdeal.τ).loc Cert.KernelIdeal.main_arg2) i : BitVec 32).slt 896#32 = true := by
  have e : BitVec.ofBool ((m ((c.tc : Thread Cert.KernelIdeal.nD Cert.KernelIdeal.τ).loc Cert.KernelIdeal.main_arg2) i : BitVec 32).slt 896#32) = 1#1 := congrFun (h c) i
  revert e
  generalize ((m ((c.tc : Thread Cert.KernelIdeal.nD Cert.KernelIdeal.τ).loc Cert.KernelIdeal.main_arg2) i : BitVec 32).slt 896#32) = p
  cases p <;> decide

theorem Cert.Proof.KernelIdeal.res7_congr {a0 b0 : Vec Ideal Cert.KernelIdeal.S2x896x320 .i8} {a1 b1 : Vec Ideal Cert.KernelIdeal.S2x896 .f32} {a2 b2 : Vec Ideal Cert.KernelIdeal.S2x896x27 .i32}
    {a3 b3 : Vec Ideal Cert.KernelIdeal.S27x320x384 .fp8e4m3} {a4 b4 a5 b5 : Vec Ideal Cert.KernelIdeal.S384 .f32} {a6 b6 : Vec Ideal Cert.KernelIdeal.S2x896x384 .bf16}
    (e0 : a0 = b0) (e1 : a1 = b1) (e2 : a2 = b2) (e3 : a3 = b3) (e4 : a4 = b4) (e5 : a5 = b5) (e6 : a6 = b6) :
    Cert.Proof.KernelIdeal.res7 a0 a1 a2 a3 a4 a5 a6 = Cert.Proof.KernelIdeal.res7 b0 b1 b2 b3 b4 b5 b6 := by
  subst e0 e1 e2 e3 e4 e5 e6; rfl

theorem Cert.Proof.KernelIdeal.res8_congr {a0 b0 : Vec Ideal Cert.KernelIdeal.S2x896x320 .i8} {a1 b1 : Vec Ideal Cert.KernelIdeal.S2x896 .f32} {a2 b2 : Vec Ideal Cert.KernelIdeal.S2x896x27 .i32}
    {a3 b3 : Vec Ideal Cert.KernelIdeal.S27x320x384 .fp8e4m3} {a4 b4 a5 b5 : Vec Ideal Cert.KernelIdeal.S384 .f32} {a6 b6 : Vec Ideal Cert.KernelIdeal.S2x896x384 .bf16}
    (e0 : a0 = b0) (e1 : a1 = b1) (e2 : a2 = b2) (e3 : a3 = b3) (e4 : a4 = b4) (e5 : a5 = b5) (e6 : a6 = b6) :
    Cert.Proof.KernelIdeal.res8 a0 a1 a2 a3 a4 a5 a6 = Cert.Proof.KernelIdeal.res8 b0 b1 b2 b3 b4 b5 b6 := by
  subst e0 e1 e2 e3 e4 e5 e6; rfl

/-- The kernel and the reference end with equal results over the extended reals: both end at `res7` and `res8` of the arguments. -/
theorem Cert.Proof.algebraic : @Cert.algebraic_KernelIdeal_ReferenceIdeal_pre_neighbours_in_range Cert.KernelIdeal.Gen.facts Cert.ReferenceIdeal.Gen.facts Cert.Proof.facts_pre := by
  haveI := Cert.Proof.facts_pre
  intro m g m' g' hpre hagree
  refine ⟨_, _, Cert.Proof.KernelIdealValue.run m g, (θ_run _ _ _).mono (fun r h c => ?_)
    (Cert.Proof.ReferenceIdeal.run m' g' fun c i => ?_)⟩
  · obtain ⟨h7, h8, hargs⟩ := h c
    obtain ⟨e0, e1, e2, e3, e4, e5, e6⟩ := hagree c
    exact ⟨h7.trans (Cert.Proof.KernelIdeal.res7_congr e0 e1 e2 e3 e4 e5 e6), h8.trans (Cert.Proof.KernelIdeal.res8_congr e0 e1 e2 e3 e4 e5 e6), hargs⟩
  · exact (congrArg (fun z : BitVec 32 => z.slt 896#32) (congrFun (hagree c).2.2.1 i)).trans (Cert.Proof.pre_at m hpre c i)

/-- Everything the certificate claims. -/
theorem Cert.Proof.claim : Cert.Claim :=
  ⟨Cert.Kernel.Gen.facts, Cert.KernelIdeal.Gen.facts, Cert.ReferenceIdeal.Gen.facts, Cert.Proof.facts_pre,
    fun m ρ _ => Cert.Proof.Kernel.frame m ρ, fun m ρ _ => Cert.Proof.KernelIdealValue.frame m ρ, fun m ρ _ => Cert.Proof.KernelIdealValue.frame m ρ,
    fun m ρ _ => Cert.ReferenceIdeal.Gen.frame m ρ, fun m ρ _ => Cert.ReferenceIdeal.Gen.frame m ρ, trivial, Cert.Proof.algebraic⟩

end
